-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_positive_KernelIdeal [hPre_positive_KernelIdeal : Cert.Pre_positive_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_positive_KernelIdeal.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_positive_ReferenceIdeal [hPre_positive_ReferenceIdeal : Cert.Pre_positive_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_positive_ReferenceIdeal.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_positive_KernelIdeal [hKernelIdeal : Cert.KernelIdeal.Facts] [hPre_positive_KernelIdeal : Cert.Pre_positive_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_positive_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_positive_ReferenceIdeal [hReferenceIdeal : Cert.ReferenceIdeal.Facts] [hPre_positive_ReferenceIdeal : Cert.Pre_positive_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_positive_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_positive_KernelIdeal [hKernelIdeal : Cert.KernelIdeal.Facts] [hReferenceIdeal : Cert.ReferenceIdeal.Facts] [hPre_positive_KernelIdeal : Cert.Pre_positive_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_positive_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![65536, 1024]⟩ 0 16 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v2_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 1024]⟩ ⟨2, ![65536, 1024]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2_3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_positive_KernelIdeal : Cert.Pre_positive_KernelIdeal.Facts) (hPre_positive_ReferenceIdeal : Cert.Pre_positive_ReferenceIdeal.Facts),
    quiescent_Kernel (hKernel := hKernel)
    ∧ quiescent_KernelIdeal (hKernelIdeal := hKernelIdeal)
    ∧ quiescent_KernelIdeal_pre_positive_KernelIdeal (hKernelIdeal := hKernelIdeal) (hPre_positive_KernelIdeal := hPre_positive_KernelIdeal)
    ∧ quiescent_ReferenceIdeal (hReferenceIdeal := hReferenceIdeal)
    ∧ quiescent_ReferenceIdeal_pre_positive_ReferenceIdeal (hReferenceIdeal := hReferenceIdeal) (hPre_positive_ReferenceIdeal := hPre_positive_ReferenceIdeal)
    ∧ preserves_Kernel_KernelIdeal
    ∧ algebraic_KernelIdeal_ReferenceIdeal_pre_positive_KernelIdeal (hKernelIdeal := hKernelIdeal) (hReferenceIdeal := hReferenceIdeal) (hPre_positive_KernelIdeal := hPre_positive_KernelIdeal)
-- ==== Pre_positive_KernelIdeal.lean ====
abbrev S4096x1024 : Shape := ⟨2, ![4096, 1024]⟩
abbrev S_ : Shape := ⟨0, ![]⟩

class Facts : Prop where
  bcast_S_S4096x1024 : S_.BroadcastsInDim S4096x1024 (![] : Fin 0 → Fin S4096x1024.rank)

variable [Facts]

def fn {F : FTy → Type} [FloatOps F] (main_arg0 : FVec F S4096x1024 .f32) : IVec S4096x1024 1 :=
  let main_cst : FVec F S_ .f32 := constant S_ .f32 0x00000000#32
  let main_v0 : FVec F S4096x1024 .f32 := broadcastInDim S4096x1024 ![] bcast_S_S4096x1024 main_cst
  let main_v1 : IVec S4096x1024 1 := cmpf .ogt main_arg0 main_v0
  let main_cst_0 : FVec F S_ .f32 := constant S_ .f32 0x7F800000#32
  let main_v2 : FVec F S4096x1024 .f32 := broadcastInDim S4096x1024 ![] bcast_S_S4096x1024 main_cst_0
  let main_v3 : IVec S4096x1024 1 := cmpf .olt main_arg0 main_v2
  let main_v4 : IVec S4096x1024 1 := andi main_v1 main_v3
  main_v4
-- ==== Pre_positive_ReferenceIdeal.lean ====
abbrev S65536x1024 : Shape := ⟨2, ![65536, 1024]⟩
abbrev S_ : Shape := ⟨0, ![]⟩

class Facts : Prop where
  bcast_S_S65536x1024 : S_.BroadcastsInDim S65536x1024 (![] : Fin 0 → Fin S65536x1024.rank)

variable [Facts]

def fn {F : FTy → Type} [FloatOps F] (main_arg0 : FVec F S65536x1024 .f32) : IVec S65536x1024 1 :=
  let main_cst : FVec F S_ .f32 := constant S_ .f32 0x00000000#32
  let main_v0 : FVec F S65536x1024 .f32 := broadcastInDim S65536x1024 ![] bcast_S_S65536x1024 main_cst
  let main_v1 : IVec S65536x1024 1 := cmpf .ogt main_arg0 main_v0
  let main_cst_0 : FVec F S_ .f32 := constant S_ .f32 0x7F800000#32
  let main_v2 : FVec F S65536x1024 .f32 := broadcastInDim S65536x1024 ![] bcast_S_S65536x1024 main_cst_0
  let main_v3 : IVec S65536x1024 1 := cmpf .olt main_arg0 main_v2
  let main_v4 : IVec S65536x1024 1 := andi main_v1 main_v3
  main_v4
-- ==== Kernel.lean ====
abbrev S4096x1024 : Shape := ⟨2, ![4096, 1024]⟩
abbrev S1x1024 : Shape := ⟨2, ![1, 1024]⟩
abbrev S4x1x1024 : Shape := ⟨3, ![4, 1, 1024]⟩
abbrev S4 : Shape := ⟨1, ![4]⟩
abbrev S_ : Shape := ⟨0, ![]⟩
abbrev S256x256 : Shape := ⟨2, ![256, 256]⟩
abbrev S256x1024 : Shape := ⟨2, ![256, 1024]⟩
abbrev S128x1024 : Shape := ⟨2, ![128, 1024]⟩
abbrev S64x1024 : Shape := ⟨2, ![64, 1024]⟩
abbrev S32x1024 : Shape := ⟨2, ![32, 1024]⟩
abbrev S16x1024 : Shape := ⟨2, ![16, 1024]⟩
abbrev S8x1024 : Shape := ⟨2, ![8, 1024]⟩
abbrev S4x1024 : Shape := ⟨2, ![4, 1024]⟩
abbrev S2x1024 : Shape := ⟨2, ![2, 1024]⟩
abbrev S1 : Shape := ⟨1, ![1]⟩
abbrev S1x1x1024 : Shape := ⟨3, ![1, 1, 1024]⟩
abbrev S1024 : Shape := ⟨1, ![1024]⟩

abbrev nBuf : Space → Nat
  | .hbm => 2
  | .vmem => 4
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .local _ .vmem, ⟨0, _⟩ => ⟨S4096x1024, .f32⟩
  | .local _ .vmem, ⟨1, _⟩ => ⟨S4096x1024, .f32⟩
  | .local _ .vmem, ⟨2, _⟩ => ⟨S1x1024, .f32⟩
  | .local _ .vmem, ⟨3, _⟩ => ⟨S4x1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  (ofTc nBuf bufTy 1 10 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v4 : BitVec 32 := Scalar.addi v2 c15_i32
  let c16_i32_0 : BitVec 32 := 16#32
  let v5 : BitVec 32 := Scalar.remsi v4 c16_i32_0
  let c1_i32_2 : BitVec 32 := 1#32
  let v6 : BitVec 32 := Scalar.muli v5 c1_i32_2
  let v7 : BitVec 32 := Scalar.addi c0_i32 v6
  v7.toNat
def k0_dev2 (d0 : Dev nD) : Nat :=
  let c0_i32_6 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v8 : BitVec 32 := Scalar.addi v2 c14_i32
  let c16_i32_3 : BitVec 32 := 16#32
  let v9 : BitVec 32 := Scalar.remsi v8 c16_i32_3
  let c1_i32_5 : BitVec 32 := 1#32
  let v10 : BitVec 32 := Scalar.muli v9 c1_i32_5
  let v11 : BitVec 32 := Scalar.addi c0_i32_6 v10
  v11.toNat
def k0_dev3 (d0 : Dev nD) : Nat :=
  let c0_i32_10 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v12 : BitVec 32 := Scalar.addi v2 c12_i32
  let c16_i32_7 : BitVec 32 := 16#32
  let v13 : BitVec 32 := Scalar.remsi v12 c16_i32_7
  let c1_i32_9 : BitVec 32 := 1#32
  let v14 : BitVec 32 := Scalar.muli v13 c1_i32_9
  let v15 : BitVec 32 := Scalar.addi c0_i32_10 v14
  v15.toNat
def k0_dev4 (d0 : Dev nD) : Nat :=
  let c0_i32_14 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v16 : BitVec 32 := Scalar.addi v2 c8_i32
  let c16_i32_11 : BitVec 32 := 16#32
  let v17 : BitVec 32 := Scalar.remsi v16 c16_i32_11
  let c1_i32_13 : BitVec 32 := 1#32
  let v18 : BitVec 32 := Scalar.muli v17 c1_i32_13
  let v19 : BitVec 32 := Scalar.addi c0_i32_14 v18
  v19.toNat
def k0_cond1 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_33 : BitVec 32 := 1#32
  let v461 : BitVec 32 := Scalar.addi v2 c1_i32_33
  let c16_i32_34 : BitVec 32 := 16#32
  let v462 : BitVec 1 := Scalar.cmpi .slt v461 c16_i32_34
  let v463 : BitVec 32 := Scalar.extui v462
  let c0_i32_35 : BitVec 32 := 0#32
  let v464 : BitVec 1 := Scalar.cmpi .ne v463 c0_i32_35
  v464

def k0_dev5 (d0 : Dev nD) : Nat :=
  let c0_i32_218 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_213 : BitVec 32 := 1#32
  let v760 : BitVec 32 := Scalar.addi v2 c1_i32_213
  let c1_i32_217 : BitVec 32 := 1#32
  let v761 : BitVec 32 := Scalar.muli v760 c1_i32_217
  let v762 : BitVec 32 := Scalar.addi c0_i32_218 v761
  v762.toNat
def k0_cond3 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v516 : BitVec 32 := Scalar.addi v2 c2_i32
  let c16_i32_62 : BitVec 32 := 16#32
  let v517 : BitVec 1 := Scalar.cmpi .slt v516 c16_i32_62
  let v518 : BitVec 32 := Scalar.extui v517
  let c0_i32_63 : BitVec 32 := 0#32
  let v519 : BitVec 1 := Scalar.cmpi .ne v518 c0_i32_63
  v519

def k0_dev6 (d0 : Dev nD) : Nat :=
  let c0_i32_218 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_213 : BitVec 32 := 2#32
  let v760 : BitVec 32 := Scalar.addi v2 c2_i32_213
  let c1_i32_217 : BitVec 32 := 1#32
  let v761 : BitVec 32 := Scalar.muli v760 c1_i32_217
  let v762 : BitVec 32 := Scalar.addi c0_i32_218 v761
  v762.toNat
def k0_cond5 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_90 : BitVec 32 := 4#32
  let v571 : BitVec 32 := Scalar.addi v2 c4_i32_90
  let c16_i32_91 : BitVec 32 := 16#32
  let v572 : BitVec 1 := Scalar.cmpi .slt v571 c16_i32_91
  let v573 : BitVec 32 := Scalar.extui v572
  let c0_i32_92 : BitVec 32 := 0#32
  let v574 : BitVec 1 := Scalar.cmpi .ne v573 c0_i32_92
  v574

def k0_dev7 (d0 : Dev nD) : Nat :=
  let c0_i32_218 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_213 : BitVec 32 := 4#32
  let v760 : BitVec 32 := Scalar.addi v2 c4_i32_213
  let c1_i32_217 : BitVec 32 := 1#32
  let v761 : BitVec 32 := Scalar.muli v760 c1_i32_217
  let v762 : BitVec 32 := Scalar.addi c0_i32_218 v761
  v762.toNat
def k0_cond7 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_119 : BitVec 32 := 8#32
  let v626 : BitVec 32 := Scalar.addi v2 c8_i32_119
  let c16_i32_120 : BitVec 32 := 16#32
  let v627 : BitVec 1 := Scalar.cmpi .slt v626 c16_i32_120
  let v628 : BitVec 32 := Scalar.extui v627
  let c0_i32_121 : BitVec 32 := 0#32
  let v629 : BitVec 1 := Scalar.cmpi .ne v628 c0_i32_121
  v629

def k0_dev8 (d0 : Dev nD) : Nat :=
  let c0_i32_217 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_213 : BitVec 32 := 8#32
  let v760 : BitVec 32 := Scalar.addi v2 c8_i32_213
  let c1_i32_216 : BitVec 32 := 1#32
  let v761 : BitVec 32 := Scalar.muli v760 c1_i32_216
  let v762 : BitVec 32 := Scalar.addi c0_i32_217 v761
  v762.toNat
abbrev stage0_0 : Fin 1 → Memref sig .tc .vmem S4096x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S65536x1024 : Shape := ⟨2, ![65536, 1024]⟩
abbrev S_ : Shape := ⟨0, ![]⟩
abbrev S1024 : Shape := ⟨1, ![1024]⟩
abbrev S1x1024 : Shape := ⟨2, ![1, 1024]⟩

abbrev nBuf : Space → Nat
  | .hbm => 21
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S_, .f32⟩
  | .hbm, ⟨2, _⟩ => ⟨S1024, .f32⟩
  | .hbm, ⟨3, _⟩ => ⟨S_, .f32⟩
  | .hbm, ⟨4, _⟩ => ⟨S65536x1024, .f32⟩
  | .hbm, ⟨5, _⟩ => ⟨S_, .i32⟩
  | .hbm, ⟨6, _⟩ => ⟨S65536x1024, .f32⟩
  | .hbm, ⟨7, _⟩ => ⟨S_, .i32⟩
  | .hbm, ⟨8, _⟩ => ⟨S1024, .f32⟩
  | .hbm, ⟨9, _⟩ => ⟨S65536x1024, .f32⟩
  | .hbm, ⟨10, _⟩ => ⟨S_, .i32⟩
  | .hbm, ⟨11, _⟩ => ⟨S_, .i1⟩
  | .hbm, ⟨12, _⟩ => ⟨S_, .i32⟩
  | .hbm, ⟨13, _⟩ => ⟨S1x1024, .f32⟩
  | .hbm, ⟨14, _⟩ => ⟨S1024, .f32⟩
  | .hbm, ⟨15, _⟩ => ⟨S1024, .f32⟩
  | .hbm, ⟨16, _⟩ => ⟨S1x1024, .f32⟩
  | .hbm, ⟨17, _⟩ => ⟨S_, .i32⟩
  | .hbm, ⟨18, _⟩ => ⟨S65536x1024, .f32⟩
  | .hbm, ⟨19, _⟩ => ⟨S_, .i32⟩
  | .hbm, ⟨20, _⟩ => ⟨S_, .i32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_c : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev main_while0c_c_4 : Ref sig .tc := ⟨.hbm, 10, rfl⟩
abbrev main_while0c_v3 : Ref sig .tc := ⟨.hbm, 11, rfl⟩
abbrev main_while0b_call0_c : Ref sig .tc := ⟨.hbm, 12, rfl⟩
abbrev main_while0b_call0_v0 : Ref sig .tc := ⟨.hbm, 13, rfl⟩
abbrev main_while0b_v3 : Ref sig .tc := ⟨.hbm, 14, rfl⟩
abbrev main_while0b_v4 : Ref sig .tc := ⟨.hbm, 15, rfl⟩
abbrev main_while0b_call1_v0 : Ref sig .tc := ⟨.hbm, 16, rfl⟩
abbrev main_while0b_call1_c : Ref sig .tc := ⟨.hbm, 17, rfl⟩
abbrev main_while0b_v5 : Ref sig .tc := ⟨.hbm, 18, rfl⟩
abbrev main_while0b_c_4 : Ref sig .tc := ⟨.hbm, 19, rfl⟩
abbrev main_while0b_v6 : Ref sig .tc := ⟨.hbm, 20, rfl⟩

abbrev nD : Nat := 1
abbrev τ : Topo := Topo.v7x

variable {F : FTy → Type} [FloatOps F]

abbrev main_while0_count : Scf.Loop 32 := ⟨0#32, 65536#32, 1#32⟩
-- ==== Proof.KernelIdeal.Steps.lean ====
/-
The kernel's body as a short program: one definition per repeated step (load a block of `x`, the product of a block's
rows, a send round, a receive round, a block of the scan, the final scaling of a block), and the body of the kernel
function equal to their sequence.
-/
module

public import proofs.«01_k».proof.Proof.Gen.KernelIdeal
public import proofs.«01_k».proof.Proof.Gen.KernelIdeal.Skeleton

@[expose] public section

noncomputable section

namespace Cert.KernelIdeal.Scan

open Cert.KernelIdeal Cert.KernelIdeal.Gen
open Idealize.ShloMosaic Idealize.SL.Sem

variable {F : FTy → Type} [FloatOps F]

/-! ## Buffers, slots and semaphores -/

/-- The device's block of `x`, staged. -/
abbrev xM : Memref sig .tc .vmem S4096x1024 .f32 := Memref.whole cc0_stg0_0
/-- The device's block of the result, staged. -/
abbrev oM : Memref sig .tc .vmem S4096x1024 .f32 := Memref.whole cc0_stg1_0
/-- The accumulator: the product of the rows seen so far. -/
abbrev aM : Memref sig .tc .vmem S1x1024 .f32 := Memref.whole cc0_scratch0
/-- The four landing slots, one per round. -/
abbrev mM : Memref sig .tc .vmem S4x1x1024 .f32 := Memref.whole cc0_scratch1

theorem inb_slot (r : Fin 4) : ∀ a, (![r.val, 0, 0] : Fin 3 → ℕ) a + S1x1x1024.size a ≤ S4x1x1024.size a := by
  revert r; decide
theorem inb_sem (r : Fin 4) : ∀ a, (![r.val] : Fin 1 → ℕ) a + S1.size a ≤ S4.size a := by
  revert r; decide
theorem inb_blk (b : Fin 16) : ∀ a, (![256 * b.val, 0] : Fin 2 → ℕ) a + S256x1024.size a ≤ S4096x1024.size a := by
  revert b; decide

/-- Slot `r`'s rectangle in the landing buffer. -/
abbrev slotR (r : Fin 4) : Rect S4x1x1024 := Rect.unit (s := S4x1x1024) ![r.val, 0, 0] S1x1x1024.size (inb_slot r)
/-- Slot `r` of the landing buffer, as one row. -/
abbrev slotM (r : Fin 4) : Memref sig .tc .vmem S1x1024 .f32 :=
  (mM.slice (slotR r) (fun _ => rfl)).squeeze S1x1024 squeezes_S1x1x1024_S1x1024
/-- Round `r`'s send semaphore. -/
abbrev sendS (r : Fin 4) : DmaSem sig :=
  ((cc0_scratch2.slice (Rect.unit (s := S4) ![r.val] S1.size (inb_sem r))).squeeze S_ squeezes_S1_S_).sem
/-- Round `r`'s receive semaphore. -/
abbrev recvS (r : Fin 4) : DmaSem sig :=
  ((cc0_scratch3.slice (Rect.unit (s := S4) ![r.val] S1.size (inb_sem r))).squeeze S_ squeezes_S1_S_).sem
/-- The barrier semaphore the entry handshake runs on. -/
abbrev barS : Sem sig := (SemArray.scalar (sig.barrier 0 rfl) : Sems sig S_).sem

/-- Rows `256 b … 256 b + 255` of a device's block. -/
abbrev blkR (b : Fin 16) : Rect S4096x1024 := Rect.unit (s := S4096x1024) ![256 * b.val, 0] S256x1024.size (inb_blk b)
/-- The whole accumulator. -/
abbrev rowR : Rect S1x1024 := Rect.unit (s := S1x1024) ![0, 0] S1x1024.size inb_S1x1024_S1x1024_0_0

/-! ## What a block computes -/

/-- The product of a block's 256 rows, by eight halvings. -/
def rowprod (x : Vec F S256x1024 .f32) : FVec F S1x1024 .f32 :=
  have v27 : FVec F S256x1024 .f32 := shapeCast S256x1024 x shapeCasts_S256x1024_S256x1024
  have v30 : FVec F S128x1024 .f32 := mulf (extractStridedSlice S128x1024 ![0, 0] v27 slices_S256x1024_o0_0_S128x1024) (extractStridedSlice S128x1024 ![128, 0] v27 slices_S256x1024_o128_0_S128x1024)
  have v33 : FVec F S64x1024 .f32 := mulf (extractStridedSlice S64x1024 ![0, 0] v30 slices_S128x1024_o0_0_S64x1024) (extractStridedSlice S64x1024 ![64, 0] v30 slices_S128x1024_o64_0_S64x1024)
  have v36 : FVec F S32x1024 .f32 := mulf (extractStridedSlice S32x1024 ![0, 0] v33 slices_S64x1024_o0_0_S32x1024) (extractStridedSlice S32x1024 ![32, 0] v33 slices_S64x1024_o32_0_S32x1024)
  have v39 : FVec F S16x1024 .f32 := mulf (extractStridedSlice S16x1024 ![0, 0] v36 slices_S32x1024_o0_0_S16x1024) (extractStridedSlice S16x1024 ![16, 0] v36 slices_S32x1024_o16_0_S16x1024)
  have v42 : FVec F S8x1024 .f32 := mulf (extractStridedSlice S8x1024 ![0, 0] v39 slices_S16x1024_o0_0_S8x1024) (extractStridedSlice S8x1024 ![8, 0] v39 slices_S16x1024_o8_0_S8x1024)
  have v45 : FVec F S4x1024 .f32 := mulf (extractStridedSlice S4x1024 ![0, 0] v42 slices_S8x1024_o0_0_S4x1024) (extractStridedSlice S4x1024 ![4, 0] v42 slices_S8x1024_o4_0_S4x1024)
  have v48 : FVec F S2x1024 .f32 := mulf (extractStridedSlice S2x1024 ![0, 0] v45 slices_S4x1024_o0_0_S2x1024) (extractStridedSlice S2x1024 ![2, 0] v45 slices_S4x1024_o2_0_S2x1024)
  mulf (extractStridedSlice S1x1024 ![0, 0] v48 slices_S2x1024_o0_0_S1x1024) (extractStridedSlice S1x1024 ![1, 0] v48 slices_S2x1024_o1_0_S1x1024)

/-- The logarithms of a block. -/
def logs (x : Vec F S256x1024 .f32) : FVec F S256x1024 .f32 := log (shapeCast S256x1024 x shapeCasts_S256x1024_S256x1024)

/-- The block of running products from a carry: `exp` of the triangular sums of the logarithms plus the carry. -/
def scanBlk (carry : FVec F S1x1024 .f32) (x : Vec F S256x1024 .f32) : FVec F S256x1024 .f32 :=
  exp (addf (matmul dot_S256x256_S256x1024_S256x1024_1_0_0_1_n_n none (k0_pay4 (F := F)) (truncf .bf16 (logs x) bitsLt_bf16_f32)
    (constant S256x1024 .f32 0x00000000#32)) (broadcastTo S256x1024 carry broadcasts_S1x1024_S256x1024))

/-- The carry into the next block: this one plus the sum of the block's logarithms. -/
def nextCarry (carry : FVec F S1x1024 .f32) (x : Vec F S256x1024 .f32) : FVec F S1x1024 .f32 :=
  addf carry (shapeCast S1x1024 (multiReduction .add [0] S1024 (logs x) 0x00000000#32 reduces_S256x1024_S1024 (.inl rfl) rfl) shapeCasts_S1024_S1x1024)

/-- The accumulator after a receive: itself times what landed. -/
def mulSlot (a : Vec F S1x1024 .f32) (w : Vec F S1x1x1024 .f32) : FVec F S1x1024 .f32 :=
  shapeCast S1x1024 (mulf a (shapeCast S1x1024 w shapeCasts_S1x1x1024_S1x1024)) shapeCasts_S1x1024_S1x1024

/-- A block scaled by a row. -/
def scaleBlk (p : FVec F S1x1024 .f32) (y : Vec F S256x1024 .f32) : FVec F S256x1024 .f32 :=
  mulf (shapeCast S256x1024 y shapeCasts_S256x1024_S256x1024) (broadcastTo S256x1024 p broadcasts_S1x1024_S256x1024)

/-! ## The steps -/

/-- A core's program returning an `α`. -/
abbrev CoreProg (F : FTy → Type) [FloatOps F] (α : Type) : Type 1 := Prog (TpuEff nD τ sig (Elt F) Λ₀ .tc) α

variable {α : Type}

/-- Load block `b` of `x`. -/
def ldX (b : Fin 16) (k : Vec F S256x1024 .f32 → CoreProg F α) : CoreProg F α :=
  .op (.load xM (blkR b).toLoadRect (View.loadsAt_vmem h_S256x1024)) k
/-- Load block `b` of the result buffer. -/
def ldO (b : Fin 16) (k : Vec F S256x1024 .f32 → CoreProg F α) : CoreProg F α :=
  .op (.load oM (blkR b).toLoadRect (View.loadsAt_vmem h_S256x1024)) k
/-- Store block `b` of the result buffer. -/
def stO (b : Fin 16) (w : FVec F S256x1024 .f32) (k : CoreProg F α) : CoreProg F α :=
  .op (.store oM (blkR b) w Finset.univ (View.stores_vmem_bits_univ h_S256x1024 rfl) (.inl rfl)) fun _ => k
/-- Load the accumulator. -/
def ldA (k : Vec F S1x1024 .f32 → CoreProg F α) : CoreProg F α :=
  .op (.load aM rowR.toLoadRect (View.loadsAt_vmem h_S1x1024)) k
/-- Store the accumulator. -/
def stA (w : FVec F S1x1024 .f32) (k : CoreProg F α) : CoreProg F α :=
  .op (.store aM rowR w Finset.univ (View.stores_vmem_bits_univ h_S1x1024 rfl) (.inl rfl)) fun _ => k

/-- Multiply the row products of the `m` blocks from `n` on into `t`. -/
def prods : ℕ → ℕ → FVec F S1x1024 .f32 → (FVec F S1x1024 .f32 → CoreProg F α) → CoreProg F α
  | 0, _, t, k => k t
  | m + 1, n, t, k => ldX (Fin.ofNat 16 n) fun x => prods m (n + 1) (mulf t (rowprod x)) k

/-- Scan the `m` blocks from `n` on, from carry `c`. -/
def scans : ℕ → ℕ → FVec F S1x1024 .f32 → (FVec F S1x1024 .f32 → CoreProg F α) → CoreProg F α
  | 0, _, c, k => k c
  | m + 1, n, c, k => ldX (Fin.ofNat 16 n) fun x => ldO (Fin.ofNat 16 n) fun _ => stO (Fin.ofNat 16 n) (scanBlk c x) (scans m (n + 1) (nextCarry c x) k)

/-- Scale the `m` blocks from `n` on by `p`. -/
def scales (p : FVec F S1x1024 .f32) : ℕ → ℕ → CoreProg F α → CoreProg F α
  | 0, _, k => k
  | m + 1, n, k => ldO (Fin.ofNat 16 n) fun y => ldO (Fin.ofNat 16 n) fun _ => stO (Fin.ofNat 16 n) (scaleBlk p y) (scales p m (n + 1) k)

/-- A device's position along the mesh axis, as the kernel computes it. -/
abbrev pos (d : Dev nD) : BitVec 32 := Scalar.remsi (Scalar.divsi (Dev.word d) 1#32) 16#32

/-- Round `r`'s test that a device sends. -/
def sendCond : Fin 4 → Dev nD → BitVec 1 := fun r d => match r with
  | 0 => k0_cond1 d | 1 => k0_cond3 d | 2 => k0_cond5 d | 3 => k0_cond7 d
/-- Round `r`'s target. -/
def sendDev : (r : Fin 4) → (d : Dev nD) → sendCond r d = 1#1 → Dev nD := fun r d => match r with
  | 0 => fun h => ⟨k0_dev5 d, k0_dev5_lt d h⟩ | 1 => fun h => ⟨k0_dev6 d, k0_dev6_lt d h⟩
  | 2 => fun h => ⟨k0_dev7 d, k0_dev7_lt d h⟩ | 3 => fun h => ⟨k0_dev8 d, k0_dev8_lt d h⟩
/-- Round `r`'s test that the device at position `v` receives. -/
def recvCond (r : Fin 4) (v : BitVec 32) : BitVec 1 :=
  Scalar.cmpi .ne (Scalar.extui (Scalar.cmpi .sge v (BitVec.ofNat 32 (2 ^ r.val)))) 0#32
/-- The device signal `r` of the handshake goes to. -/
def sigDev : Fin 4 → Dev nD → Dev nD := fun r d => match r with
  | 0 => ⟨k0_dev1 d, k0_dev1_lt d⟩ | 1 => ⟨k0_dev2 d, k0_dev2_lt d⟩
  | 2 => ⟨k0_dev3 d, k0_dev3_lt d⟩ | 3 => ⟨k0_dev4 d, k0_dev4_lt d⟩

/-- Signal `r` of the handshake. -/
def signal (r : Fin 4) (d : Dev nD) (k : CoreProg F α) : CoreProg F α :=
  semSignalWord (sigDev r d) barS 1#32 >>= fun _ => k

/-- A send of round `r`: the accumulator into slot `r` of the target, then the wait for its departure. -/
def sendK (r : Fin 4) (d : Dev nD) (h : sendCond r d = 1#1) (k : CoreProg F α) : CoreProg F α :=
  .op (.enqueueDma aM (.remote (Dev.tc (sendDev r d h)) (slotM r) (.dma (sendS r))) (.dma (recvS r))
      (Memref.isWhole_whole cc0_scratch0).wordExact ((View.wordExact_bits rfl).reshape _ _) ⟨⟨rfl, Or.inl rfl⟩, trivial⟩) fun _ =>
    .op (.waitDma2 (sendS r) (slotM r) aM ((View.wordExact_bits rfl).reshape _ _) (Memref.isWhole_whole cc0_scratch0).wordExact) fun _ => k

/-- Round `r`'s send, by the devices that have a target. -/
def sendIf (r : Fin 4) (d : Dev nD) (k : CoreProg F α) : CoreProg F α :=
  Prog.bind (if h : sendCond r d = 1#1 then sendK r d h (.ret PUnit.unit) else .ret PUnit.unit) fun _ => k

theorem sendIf_pos {r : Fin 4} {d : Dev nD} (h : sendCond r d = 1#1) (k : CoreProg F α) :
    sendIf r d k = sendK r d h k := by unfold sendIf; rw [dif_pos h]; rfl
theorem sendIf_neg {r : Fin 4} {d : Dev nD} (h : ¬ sendCond r d = 1#1) (k : CoreProg F α) : sendIf r d k = k := by
  unfold sendIf; rw [dif_neg h]; rfl

/-- A receive of round `r`: the wait for slot `r`, then the accumulator times it. -/
def recvK (r : Fin 4) (k : CoreProg F α) : CoreProg F α :=
  .op (.waitDma2 (recvS r) aM (slotM r) (Memref.isWhole_whole cc0_scratch0).wordExact ((View.wordExact_bits rfl).reshape _ _)) fun _ =>
    ldA fun a => .op (.load mM (slotR r).toLoadRect (View.loadsAt_vmem h_S1x1x1024)) fun w => ldA fun _ => stA (mulSlot a w) k

/-- Round `r`'s receive, by the devices a copy is sent to. -/
def recvIf (r : Fin 4) (v : BitVec 32) (k : CoreProg F α) : CoreProg F α :=
  Prog.bind (if recvCond r v = 1#1 then recvK r (.ret PUnit.unit) else .ret PUnit.unit) fun _ => k

theorem recvIf_pos {r : Fin 4} {v : BitVec 32} (h : recvCond r v = 1#1) (k : CoreProg F α) :
    recvIf r v k = recvK r k := by unfold recvIf; rw [if_pos h]; rfl
theorem recvIf_neg {r : Fin 4} {v : BitVec 32} (h : ¬ recvCond r v = 1#1) (k : CoreProg F α) : recvIf r v k = k := by
  unfold recvIf; rw [if_neg h]; rfl

/-- Round `r`: send, four blocks of the scan, receive. -/
def round (r : Fin 4) (d : Dev nD) (c : FVec F S1x1024 .f32) (k : FVec F S1x1024 .f32 → CoreProg F α) : CoreProg F α :=
  sendIf r d (scans 4 (4 * r.val) c fun c' => recvIf r (pos d) (k c'))

/-- The kernel's body: the handshake, the product of the device's rows, four rounds, the scaling by what came before. -/
def body : CoreProg F PUnit :=
  .op .deviceId fun d => signal 0 d <| signal 1 d <| signal 2 d <| signal 3 d <|
    semWaitWord barS 4#32 >>= fun _ => ldX 0 fun x => prods 15 1 (rowprod x) fun t =>
    ldA fun _ => stA (shapeCast S1x1024 t shapeCasts_S1x1024_S1x1024) <|
    round 0 d (k0_pay28 (F := F)) fun c => round 1 d c fun c => round 2 d c fun c => round 3 d c fun _ =>
    ldA fun a => scales (divf a t) 16 0 (.ret ⟨⟩)

/-! ## The parts of the body that branch, in these steps -/

section Parts
set_option maxHeartbeats 1600000
set_option maxRecDepth 65536

theorem part9_bind (d : Dev nD) (v2 : BitVec 32) (v402 : FVec F S1x1024 .f32) (v419 : FVec F S8x1024 .f32) (k : (Σ' (_ : FVec F S1x1024 .f32) (_ : FVec F S1x1024 .f32), FVec F S256x1024 .f32) → CoreProg F α) :
    (k0_part9 (F := F) xM (Memref.isWhole_whole _) oM (Memref.isWhole_whole _) aM (Memref.isWhole_whole _) mM (Memref.isWhole_whole _) cc0_scratch2 cc0_scratch3 d v2 v402 v419 >>= k) = ldX 15 fun x => ldA fun _ => stA (k0_pay27 v402 v419 x) (sendIf 0 d (ldX 0 fun y =>
      k ⟨k0_pay26 v402 v419 x, k0_pay28 (F := F), k0_pay29 y⟩)) := by
  simp only [k0_part9_eq_skeleton]; unfold k0_part9_skel
  by_cases h0 : sendCond 0 d = 1#1
  · have h0' : k0_cond1 d = 1#1 := h0
    simp only [sendIf_pos h0, dif_pos h0']; rfl
  · have h0' : ¬ k0_cond1 d = 1#1 := h0
    simp only [sendIf_neg h0, dif_neg h0']; rfl

theorem part11_bind (d : Dev nD) (v2 : BitVec 32) (v25 : FVec F S256x256 .bf16) (v500 : FVec F S1x1024 .f32) (v503 : FVec F S256x1024 .f32) (v505 : FVec F S256x1024 .f32) (k : (Σ' (_ : FVec F S1x1024 .f32), FVec F S256x1024 .f32) → CoreProg F α) :
    (k0_part11 (F := F) xM (Memref.isWhole_whole _) oM (Memref.isWhole_whole _) aM (Memref.isWhole_whole _) mM (Memref.isWhole_whole _) cc0_scratch2 cc0_scratch3 d v2 v25 v500 v503 v505 >>= k) = ldO 3 fun _ => stO 3 (k0_pay40 v500 v505) (recvIf 0 v2 (sendIf 1 d (ldX 4 fun x => ldO 4 fun _ => stO 4 (k0_pay44 v25 v500 v503 x) (
      ldX 5 fun y => ldO 5 fun _ => stO 5 (k0_pay47 v25 v500 v503 x y) (k ⟨k0_pay45 v500 v503 x, k0_pay46 y⟩))))) := by
  simp only [k0_part11_eq_skeleton]; unfold k0_part11_skel
  by_cases h0 : recvCond 0 v2 = 1#1
  · have h0' : Scalar.cmpi .ne (Scalar.extui (Scalar.cmpi .sge v2 1#32)) 0#32 = 1#1 := h0
    by_cases h1 : sendCond 1 d = 1#1
    · have h1' : k0_cond3 d = 1#1 := h1
      simp only [recvIf_pos h0, sendIf_pos h1, dif_pos h0', dif_pos h1']; rfl
    · have h1' : ¬ k0_cond3 d = 1#1 := h1
      simp only [recvIf_pos h0, sendIf_neg h1, dif_pos h0', dif_neg h1']; rfl
  · have h0' : ¬ Scalar.cmpi .ne (Scalar.extui (Scalar.cmpi .sge v2 1#32)) 0#32 = 1#1 := h0
    by_cases h1 : sendCond 1 d = 1#1
    · have h1' : k0_cond3 d = 1#1 := h1
      simp only [recvIf_neg h0, sendIf_pos h1, dif_neg h0', dif_pos h1']; rfl
    · have h1' : ¬ k0_cond3 d = 1#1 := h1
      simp only [recvIf_neg h0, sendIf_neg h1, dif_neg h0', dif_neg h1']; rfl

theorem part12_bind (d : Dev nD) (v2 : BitVec 32) (v25 : FVec F S256x256 .bf16) (v531 : FVec F S1x1024 .f32) (v534 : FVec F S256x1024 .f32) (k : (Σ' (_ : FVec F S1x1024 .f32), FVec F S256x1024 .f32) → CoreProg F α) :
    (k0_part12 (F := F) xM (Memref.isWhole_whole _) oM (Memref.isWhole_whole _) aM (Memref.isWhole_whole _) mM (Memref.isWhole_whole _) cc0_scratch2 cc0_scratch3 d v2 v25 v531 v534 >>= k) = ldX 6 fun x => ldO 6 fun _ => stO 6 (k0_pay50 v25 v531 v534 x) (ldX 7 fun y => ldO 7 fun _ => stO 7 (k0_pay53 v25 v531 v534 x y) (
      recvIf 1 v2 (sendIf 2 d (ldX 8 fun z => k ⟨k0_pay54 v531 v534 x y, k0_pay56 z⟩)))) := by
  simp only [k0_part12_eq_skeleton]; unfold k0_part12_skel
  by_cases h0 : recvCond 1 v2 = 1#1
  · have h0' : Scalar.cmpi .ne (Scalar.extui (Scalar.cmpi .sge v2 2#32)) 0#32 = 1#1 := h0
    by_cases h1 : sendCond 2 d = 1#1
    · have h1' : k0_cond5 d = 1#1 := h1
      simp only [recvIf_pos h0, sendIf_pos h1, dif_pos h0', dif_pos h1']; rfl
    · have h1' : ¬ k0_cond5 d = 1#1 := h1
      simp only [recvIf_pos h0, sendIf_neg h1, dif_pos h0', dif_neg h1']; rfl
  · have h0' : ¬ Scalar.cmpi .ne (Scalar.extui (Scalar.cmpi .sge v2 2#32)) 0#32 = 1#1 := h0
    by_cases h1 : sendCond 2 d = 1#1
    · have h1' : k0_cond5 d = 1#1 := h1
      simp only [recvIf_neg h0, sendIf_pos h1, dif_neg h0', dif_pos h1']; rfl
    · have h1' : ¬ k0_cond5 d = 1#1 := h1
      simp only [recvIf_neg h0, sendIf_neg h1, dif_neg h0', dif_neg h1']; rfl

theorem part14_bind (d : Dev nD) (v2 : BitVec 32) (v25 : FVec F S256x256 .bf16) (v610 : FVec F S1x1024 .f32) (v613 : FVec F S256x1024 .f32) (v615 : FVec F S256x1024 .f32) (k : (Σ' (_ : FVec F S1x1024 .f32), FVec F S256x1024 .f32) → CoreProg F α) :
    (k0_part14 (F := F) xM (Memref.isWhole_whole _) oM (Memref.isWhole_whole _) aM (Memref.isWhole_whole _) mM (Memref.isWhole_whole _) cc0_scratch2 cc0_scratch3 d v2 v25 v610 v613 v615 >>= k) = ldO 11 fun _ => stO 11 (k0_pay67 v610 v615) (recvIf 2 v2 (sendIf 3 d (ldX 12 fun x => ldO 12 fun _ => stO 12 (k0_pay71 v25 v610 v613 x) (
      ldX 13 fun y => ldO 13 fun _ => stO 13 (k0_pay74 v25 v610 v613 x y) (k ⟨k0_pay72 v610 v613 x, k0_pay73 y⟩))))) := by
  simp only [k0_part14_eq_skeleton]; unfold k0_part14_skel
  by_cases h0 : recvCond 2 v2 = 1#1
  · have h0' : Scalar.cmpi .ne (Scalar.extui (Scalar.cmpi .sge v2 4#32)) 0#32 = 1#1 := h0
    by_cases h1 : sendCond 3 d = 1#1
    · have h1' : k0_cond7 d = 1#1 := h1
      simp only [recvIf_pos h0, sendIf_pos h1, dif_pos h0', dif_pos h1']; rfl
    · have h1' : ¬ k0_cond7 d = 1#1 := h1
      simp only [recvIf_pos h0, sendIf_neg h1, dif_pos h0', dif_neg h1']; rfl
  · have h0' : ¬ Scalar.cmpi .ne (Scalar.extui (Scalar.cmpi .sge v2 4#32)) 0#32 = 1#1 := h0
    by_cases h1 : sendCond 3 d = 1#1
    · have h1' : k0_cond7 d = 1#1 := h1
      simp only [recvIf_neg h0, sendIf_pos h1, dif_neg h0', dif_pos h1']; rfl
    · have h1' : ¬ k0_cond7 d = 1#1 := h1
      simp only [recvIf_neg h0, sendIf_neg h1, dif_neg h0', dif_neg h1']; rfl

theorem part15_bind (v2 : BitVec 32) (v25 : FVec F S256x256 .bf16) (v456 : FVec F S1x1024 .f32) (v641 : FVec F S1x1024 .f32) (v644 : FVec F S256x1024 .f32) (k : (Σ' (_ : FVec F S1x1024 .f32), Vec F S256x1024 .f32) → CoreProg F α) :
    (k0_part15 (F := F) xM (Memref.isWhole_whole _) oM (Memref.isWhole_whole _) aM (Memref.isWhole_whole _) mM (Memref.isWhole_whole _) cc0_scratch2 cc0_scratch3 v2 v25 v456 v641 v644 >>= k) = ldX 14 fun x => ldO 14 fun _ => stO 14 (k0_pay77 v25 v641 v644 x) (ldX 15 fun y => ldO 15 fun _ => stO 15 (k0_pay78 v25 v641 v644 x y) (
      recvIf 3 v2 (ldA fun a => ldO 0 fun z => ldO 0 fun _ => stO 0 (k0_pay81 v456 a z) (ldO 1 fun w => k ⟨k0_pay80 v456 a, w⟩)))) := by
  simp only [k0_part15_eq_skeleton]; unfold k0_part15_skel
  by_cases h0 : recvCond 3 v2 = 1#1
  · have h0' : Scalar.cmpi .ne (Scalar.extui (Scalar.cmpi .sge v2 8#32)) 0#32 = 1#1 := h0
    simp only [recvIf_pos h0, dif_pos h0']; rfl
  · have h0' : ¬ Scalar.cmpi .ne (Scalar.extui (Scalar.cmpi .sge v2 8#32)) 0#32 = 1#1 := h0
    simp only [recvIf_neg h0, dif_neg h0']; rfl

end Parts

set_option maxRecDepth 65536 in
set_option maxHeartbeats 4000000 in
/-- The kernel function at the launch's buffers is that program. -/
theorem body_eq : cc0_body (F := F) xM (Memref.isWhole_whole _) oM (Memref.isWhole_whole _) aM (Memref.isWhole_whole _)
    mM (Memref.isWhole_whole _) cc0_scratch2 cc0_scratch3 = body := by
  simp only [cc0_body_eq_skeleton]; unfold cc0_body_skel
  simp only [part9_bind, part11_bind, part12_bind, part14_bind, part15_bind]
  simp only [k0_part1_eq_skeleton, k0_part2_eq_skeleton, k0_part3_eq_skeleton, k0_part4_eq_skeleton, k0_part5_eq_skeleton, k0_part6_eq_skeleton, k0_part7_eq_skeleton, k0_part8_eq_skeleton, k0_part10_eq_skeleton, k0_part13_eq_skeleton, k0_part16_eq_skeleton, k0_part17_eq_skeleton]
  unfold k0_part1_skel k0_part2_skel k0_part3_skel k0_part4_skel k0_part5_skel k0_part6_skel k0_part7_skel k0_part8_skel k0_part10_skel k0_part13_skel k0_part16_skel k0_part17_skel
  simp only [Prog.lift, Prog.bind_op, Prog.bind_ret, Prog.pure_eq_ret, Prog.bind_assoc]
  rfl

end Cert.KernelIdeal.Scan
-- ==== Proof.KernelIdeal.Local.lean ====
/-
The steps a device makes on its own buffers: what each block of the result buffer holds while the blocks are scanned
and scaled, the accumulator's contents round by round, and one rule per step for the loads and stores.
-/
module

public import proofs.«01_k».proof.Proof.KernelIdeal.Steps
public import Idealize.ShloMosaic.Lib.Pipeline.Launch
public import Idealize.ShloMosaic.Lib.Pipeline.Kit
public import Idealize.ShloMosaic.Lib.Tactic
public import Idealize.ShloMosaic.Lib.ValueIdxCore

@[expose] public section

noncomputable section

namespace Cert.KernelIdeal.Scan

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)

variable {F : FTy → Type} [FloatOps F] {α : Type}

/-! ## Contents -/

abbrev XBuf (F : FTy → Type) : Type := (cc0_stg0_0 : Ref sig .tc).ty.Contents (Elt F)
abbrev OBuf (F : FTy → Type) : Type := (cc0_stg1_0 : Ref sig .tc).ty.Contents (Elt F)
abbrev ABuf (F : FTy → Type) : Type := (cc0_scratch0 : Ref sig .tc).ty.Contents (Elt F)
abbrev MBuf (F : FTy → Type) : Type := (cc0_scratch1 : Ref sig .tc).ty.Contents (Elt F)

/-- Block `b` of a device's `x`. -/
def xBlk (X : XBuf F) (b : Fin 16) : Vec F S256x1024 .f32 := (xM : Memref sig .tc .vmem S4096x1024 .f32).view.readAt (Elt F) (blkR b).toLoadRect X
/-- Block `b` of the result buffer. -/
def oBlk (f : OBuf F) (b : Fin 16) : Vec F S256x1024 .f32 := (oM : Memref sig .tc .vmem S4096x1024 .f32).view.readAt (Elt F) (blkR b).toLoadRect f
/-- The result buffer with block `b` replaced. -/
def oPut (f : OBuf F) (b : Fin 16) (w : Vec F S256x1024 .f32) : OBuf F :=
  ((oM : Memref sig .tc .vmem S4096x1024 .f32).access (blkR b) : View sig .tc _ _ _).write (Elt F) f w Finset.univ

omit [FloatOps F] in
theorem oBlk_oPut_self (f : OBuf F) (b : Fin 16) (w : Vec F S256x1024 .f32) : oBlk (oPut f b w) b = w :=
  View.read_write_univ (v := ((oM : Memref sig .tc .vmem S4096x1024 .f32).view.slice (blkR b))) f w
omit [FloatOps F] in
theorem oBlk_oPut_of_ne (f : OBuf F) {b b' : Fin 16} (h : b' ≠ b) (w : Vec F S256x1024 .f32) : oBlk (oPut f b w) b' = oBlk f b' := by
  refine View.read_slice_write_slice_of_disjoint (v := (oM : Memref sig .tc .vmem S4096x1024 .f32).view) (blkR b') (blkR b) f w Finset.univ ?_
  rw [View.setOn_univ, View.set_slice, View.set_slice, Finset.disjoint_map, Finset.disjoint_left]
  intro i hi hi'
  have h1 := (Rect.mem_set_unit.mp hi) 0
  have h2 := (Rect.mem_set_unit.mp hi') 0
  have hne : b'.val ≠ b.val := fun hv => h (Fin.ext hv)
  change 256 * b'.val ≤ _ ∧ _ < 256 * b'.val + 256 at h1
  change 256 * b.val ≤ _ ∧ _ < 256 * b.val + 256 at h2
  omega

/-- The block a row lies in. -/
def blkOf (i : S4096x1024.Idx) : Fin 16 := ⟨(i 0).val / 256, by have : (i 0).val < 4096 := (i 0).isLt; omega⟩
/-- Where in its block an element lies. -/
def inBlk (i : S4096x1024.Idx) : S256x1024.Idx := ix2 ⟨(i 0).val % 256, Nat.mod_lt _ (by decide)⟩ (i 1)

omit [FloatOps F] in
/-- An element of the result buffer is its block's. -/
theorem oBlk_apply (f : OBuf F) (i : S4096x1024.Idx) : oBlk f (blkOf i) (inBlk i) = f i := by
  show f ((blkR (blkOf i)).emb (inBlk i)) = f i
  refine congrArg f (funext fun a => Fin.ext ?_)
  match a with
  | ⟨0, _⟩ => show 256 * ((i 0).val / 256) + 1 * ((i 0).val % 256) = (i 0).val; omega
  | ⟨1, _⟩ => show 0 + 1 * (i 1).val = (i 1).val; omega
omit [FloatOps F] in
/-- An element of a device's `x` is its block's. -/
theorem xBlk_apply (f : XBuf F) (i : S4096x1024.Idx) : xBlk f (blkOf i) (inBlk i) = f i := oBlk_apply f i

/-- `t` times the row products of the `m` blocks from `n` on, in order. -/
def prodFrom (X : XBuf F) : ℕ → ℕ → FVec F S1x1024 .f32 → FVec F S1x1024 .f32
  | 0, _, t => t
  | m + 1, n, t => prodFrom X m (n + 1) (mulf t (rowprod (xBlk X (Fin.ofNat 16 n))))
/-- The product of a device's rows. -/
def total (X : XBuf F) : FVec F S1x1024 .f32 := prodFrom X 15 1 (rowprod (xBlk X 0))

/-- The carry into block `n`. -/
def carryAt (X : XBuf F) : ℕ → FVec F S1x1024 .f32
  | 0 => k0_pay28 (F := F)
  | n + 1 => nextCarry (carryAt X n) (xBlk X (Fin.ofNat 16 n))

/-- Block `b` of a device's own running products. -/
def localBlk (X : XBuf F) (b : Fin 16) : FVec F S256x1024 .f32 := scanBlk (carryAt X b.val) (xBlk X b)

/-- The first `n` blocks hold the running products. -/
def Scanned (X : XBuf F) (n : ℕ) (f : OBuf F) : Prop := ∀ b : Fin 16, b.val < n → oBlk f b = localBlk X b
/-- The first `n` blocks are scaled, the others are not yet. -/
def Scaled (X : XBuf F) (p : FVec F S1x1024 .f32) (n : ℕ) (f : OBuf F) : Prop :=
  ∀ b : Fin 16, oBlk f b = if b.val < n then scaleBlk p (localBlk X b) else localBlk X b

/-- The finished buffer. -/
def outBuf (X : XBuf F) (p : FVec F S1x1024 .f32) : OBuf F := fun i => scaleBlk p (localBlk X (blkOf i)) (inBlk i)

theorem Scanned.scaled {X : XBuf F} {p : FVec F S1x1024 .f32} {f : OBuf F} (h : Scanned X 16 f) : Scaled X p 0 f := fun b => by
  rw [if_neg (Nat.not_lt_zero _)]; exact h b b.isLt
theorem Scaled.eq_outBuf {X : XBuf F} {p : FVec F S1x1024 .f32} {f : OBuf F} (h : Scaled X p 16 f) : f = outBuf X p := funext fun i => by
  rw [← oBlk_apply f i, h, if_pos (Fin.isLt _)]; rfl

theorem ofNat_val {n : ℕ} (h : n < 16) : (Fin.ofNat 16 n).val = n := Nat.mod_eq_of_lt h

theorem Scanned.step {X : XBuf F} {n : ℕ} {f : OBuf F} (hn : n < 16) (h : Scanned X n f) :
    Scanned X (n + 1) (oPut f (Fin.ofNat 16 n) (scanBlk (carryAt X n) (xBlk X (Fin.ofNat 16 n)))) := fun b hb => by
  by_cases hbn : b = Fin.ofNat 16 n
  · subst hbn; rw [oBlk_oPut_self]; unfold localBlk; rw [ofNat_val hn]
  · rw [oBlk_oPut_of_ne f hbn]
    exact h b (by have : b.val ≠ n := fun hv => hbn (Fin.ext (hv.trans (ofNat_val hn).symm)); omega)

theorem Scaled.step {X : XBuf F} {p : FVec F S1x1024 .f32} {n : ℕ} {f : OBuf F} (hn : n < 16) (h : Scaled X p n f) :
    Scaled X p (n + 1) (oPut f (Fin.ofNat 16 n) (scaleBlk p (oBlk f (Fin.ofNat 16 n)))) := fun b => by
  by_cases hbn : b = Fin.ofNat 16 n
  · subst hbn
    rw [oBlk_oPut_self, h, if_neg (by rw [ofNat_val hn]; omega), if_pos (by rw [ofNat_val hn]; omega)]
  · rw [oBlk_oPut_of_ne f hbn, h]
    have : b.val ≠ n := fun hv => hbn (Fin.ext (hv.trans (ofNat_val hn).symm))
    by_cases hb : b.val < n
    · rw [if_pos hb, if_pos (by omega)]
    · rw [if_neg hb, if_neg (by omega)]

/-! ## The resources -/

abbrev UB : Type := URounds (GSem nD τ sig) (Fin 4)
abbrev UU : Type := UR sig nD τ × UB

local notation "𝕄" => MT nD τ sig Unit (Elt F) ℕ UU ℕ

abbrev 𝒱₀ : Variants := Variants.none

/-- Device `c` runs `p` to the postcondition `Q`. -/
abbrev WP (c : Dev nD) (p : CoreProg F α) (Q : α → sProp 𝕄) : sProp 𝕄 :=
  wp frame (wpE (defs₀ (F := F)) 𝒱₀ (c : Thread nD τ) none) Set.univ p Q

/-- Device `c`'s staged `x` holds `X`; -/
abbrev xP (c : Dev nD) (X : XBuf F) : sProp 𝕄 := ((c : Thread nD τ).loc cc0_stg0_0) ↦{fullShare} X
/-- its staged result holds `f`; -/
abbrev oP (c : Dev nD) (f : OBuf F) : sProp 𝕄 := ((c : Thread nD τ).loc cc0_stg1_0) ↦{fullShare} f
/-- its accumulator holds `a`. -/
abbrev aP (c : Dev nD) (a : ABuf F) : sProp 𝕄 := ((c : Thread nD τ).loc cc0_scratch0) ↦{fullShare} a

theorem hz2 : (![0, 0] : Fin 2 → Nat) = fun _ => 0 := funext fun a => by fin_cases a <;> rfl

section Rules

variable (c : Dev nD) {Q : α → sProp (MT nD τ sig Unit (Elt F) ℕ UU ℕ)}

theorem wp_ldX (X : XBuf F) (b : Fin 16) (k : Vec F S256x1024 .f32 → CoreProg F α) :
    xP c X ⊢ iprop((xP c X -∗ WP c (k (xBlk X b)) Q) -∗ WP c (ldX b k) Q) :=
  wp_load 𝒱₀ (c : Thread nD τ) none Set.univ (m := xM) (Finset.subset_univ _)
theorem wp_ldO (f : OBuf F) (b : Fin 16) (k : Vec F S256x1024 .f32 → CoreProg F α) :
    oP c f ⊢ iprop((oP c f -∗ WP c (k (oBlk f b)) Q) -∗ WP c (ldO b k) Q) :=
  wp_load 𝒱₀ (c : Thread nD τ) none Set.univ (m := oM) (Finset.subset_univ _)
theorem wp_stO (f : OBuf F) (b : Fin 16) (w : FVec F S256x1024 .f32) (k : CoreProg F α) :
    oP c f ⊢ iprop((oP c (oPut f b w) -∗ WP c k Q) -∗ WP c (stO b w k) Q) :=
  wp_store (defs := defs₀ (F := F)) (Q := Q) (Γ := .empty) 𝒱₀ (c : Thread nD τ) none Set.univ (m := oM) (r := blkR b) (w := w) (Mk := Finset.univ)
    (hx := View.stores_vmem_bits_univ h_S256x1024 rfl) (hm := .inl rfl) (k := fun _ => k) (f := f) (Finset.subset_univ _)
theorem wp_ldA (a : ABuf F) (k : Vec F S1x1024 .f32 → CoreProg F α) :
    aP c a ⊢ iprop((aP c a -∗ WP c (k a) Q) -∗ WP c (ldA k) Q) := by
  have h := wp_load (defs := defs₀ (F := F)) (Q := Q) (Γ := .empty) 𝒱₀ (c : Thread nD τ) none Set.univ (m := aM) (r := rowR.toLoadRect) (hl := View.loadsAt_vmem h_S1x1024)
    (k := k) (q := fullShare) (f := a) (Finset.subset_univ _)
  rw [show (aM : Memref sig .tc .vmem S1x1024 .f32).view.readAt (Elt F) rowR.toLoadRect a = a from Memref.readAt_unit_zero (Elt F) cc0_scratch0 hz2 _ a] at h
  exact h
theorem wp_stA (a : ABuf F) (w : FVec F S1x1024 .f32) (k : CoreProg F α) :
    aP c a ⊢ iprop((aP c w -∗ WP c k Q) -∗ WP c (stA w k) Q) := by
  have h := wp_store (defs := defs₀ (F := F)) (Q := Q) (Γ := .empty) 𝒱₀ (c : Thread nD τ) none Set.univ (m := aM) (r := rowR) (w := w) (Mk := Finset.univ)
    (hx := View.stores_vmem_bits_univ h_S1x1024 rfl) (hm := .inl rfl) (k := fun _ => k) (f := a) (Finset.subset_univ _)
  rw [show ((aM : Memref sig .tc .vmem S1x1024 .f32).access rowR : View sig .tc _ _ _).write (Elt F) a w Finset.univ = w from
    Memref.write_access_unit_zero_univ (Elt F) cc0_scratch0 hz2 _ a w] at h
  exact h

/-- The row products of the `m` blocks from `n` on. -/
theorem wp_prods (X : XBuf F) : ∀ (m n : ℕ) (t : FVec F S1x1024 .f32) (k : FVec F S1x1024 .f32 → CoreProg F α),
    xP c X ⊢ iprop((xP c X -∗ WP c (k (prodFrom X m n t)) Q) -∗ WP c (prods m n t k) Q)
  | 0, n, t, k => by
    iintro Hx Hk; iapply Hk $$ Hx
  | m + 1, n, t, k => by
    unfold prods prodFrom
    iintro Hx Hk
    iapply (wp_ldX c X (Fin.ofNat 16 n)) $$ Hx; iintro Hx
    iapply (wp_prods X m (n + 1)) $$ Hx Hk

/-- The `m` blocks of the scan from `n` on. -/
theorem wp_scans (X : XBuf F) : ∀ (m n : ℕ) (hmn : n + m ≤ 16) (f : OBuf F) (hf : Scanned X n f) (k : FVec F S1x1024 .f32 → CoreProg F α),
    iprop(xP c X ∗ oP c f) ⊢ iprop((∀ f', ⌜Scanned X (n + m) f'⌝ -∗ xP c X -∗ oP c f' -∗ WP c (k (carryAt X (n + m))) Q)
      -∗ WP c (scans m n (carryAt X n) k) Q)
  | 0, n, _, f, hf, k => by
    iintro ⟨Hx, Ho⟩ Hk
    iapply Hk $$ [] Hx Ho
    ipureintro; exact hf
  | m + 1, n, hmn, f, hf, k => by
    unfold scans
    iintro ⟨Hx, Ho⟩ Hk
    iapply (wp_ldX c X (Fin.ofNat 16 n)) $$ Hx; iintro Hx
    iapply (wp_ldO c f (Fin.ofNat 16 n)) $$ Ho; iintro Ho
    iapply (wp_stO c f (Fin.ofNat 16 n)) $$ Ho; iintro Ho
    rw [show n + (m + 1) = n + 1 + m from by omega, show nextCarry (carryAt X n) (xBlk X (Fin.ofNat 16 n)) = carryAt X (n + 1) from rfl]
    iapply (wp_scans X m (n + 1) (by omega) _ (hf.step (by omega)) k) $$ [Hx Ho] Hk
    isplitl [Hx] <;> iassumption

/-- The `m` blocks of the scaling from `n` on. -/
theorem wp_scales (X : XBuf F) (p : FVec F S1x1024 .f32) : ∀ (m n : ℕ) (hmn : n + m ≤ 16) (f : OBuf F) (hf : Scaled X p n f) (k : CoreProg F α),
    oP c f ⊢ iprop((∀ f', ⌜Scaled X p (n + m) f'⌝ -∗ oP c f' -∗ WP c k Q) -∗ WP c (scales p m n k) Q)
  | 0, n, _, f, hf, k => by
    iintro Ho Hk
    iapply Hk $$ [] Ho
    ipureintro; exact hf
  | m + 1, n, hmn, f, hf, k => by
    unfold scales
    iintro Ho Hk
    iapply (wp_ldO c f (Fin.ofNat 16 n)) $$ Ho; iintro Ho
    iapply (wp_ldO c f (Fin.ofNat 16 n)) $$ Ho; iintro Ho
    iapply (wp_stO c f (Fin.ofNat 16 n)) $$ Ho; iintro Ho
    rw [show n + (m + 1) = n + 1 + m from by omega]
    iapply (wp_scales X p m (n + 1) (by omega) _ (hf.step (by omega)) k) $$ Ho Hk

end Rules

end Cert.KernelIdeal.Scan
-- ==== Proof.KernelIdeal.Protocol.lean ====
/-
The protocol of a launch: whom a device sends to and hears from in each round, the cells it synchronizes on, what each
signal and each copy hands over, what a device owes, and the order of the cells that makes every wait allowed.
-/
module

public import proofs.«01_k».proof.Proof.KernelIdeal.Local

@[expose] public section

noncomputable section

namespace Cert.KernelIdeal.Scan

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The neighbours of a round -/

set_option backward.proofsInPublic true in
/-- The device `2^r` further along; -/
def up (r : ℕ) (c : Dev nD) : Dev nD := ⟨(c.val + 2 ^ r) % 16, Nat.mod_lt _ (by decide)⟩
set_option backward.proofsInPublic true in
/-- the one `2^r` back. -/
def dn (r : ℕ) (c : Dev nD) : Dev nD := ⟨(c.val + 15 * 2 ^ r) % 16, Nat.mod_lt _ (by decide)⟩

theorem up_dn (r : ℕ) (c : Dev nD) : up r (dn r c) = c := Fin.ext (by
  have hc : c.val < 16 := c.isLt
  show ((c.val + 15 * 2 ^ r) % 16 + 2 ^ r) % 16 = c.val
  generalize 2 ^ r = d; omega)
theorem dn_up (r : ℕ) (c : Dev nD) : dn r (up r c) = c := Fin.ext (by
  have hc : c.val < 16 := c.isLt
  show ((c.val + 2 ^ r) % 16 + 15 * 2 ^ r) % 16 = c.val
  generalize 2 ^ r = d; omega)
/-- Going `2^r` further, as a permutation of the devices. -/
def upEquiv (r : ℕ) : Dev nD ≃ Dev nD := ⟨up r, dn r, dn_up r, up_dn r⟩

/-- Device `c` sends in round `r`; -/
abbrev sendAct (c : Dev nD) (r : ℕ) : Prop := c.val + 2 ^ r < 16
/-- device `c` receives in round `r`. -/
abbrev recvAct (c : Dev nD) (r : ℕ) : Prop := 2 ^ r ≤ c.val

theorem sendAct_dn (c : Dev nD) (r : Fin 4) : sendAct (dn r c) r ↔ recvAct c r := by revert c r; decide
theorem recvAct_up (c : Dev nD) (r : Fin 4) : recvAct (up r c) r ↔ sendAct c r := by revert c r; decide

theorem sigDev_eq (c : Dev nD) (r : Fin 4) : sigDev r c = dn r c := by
  match r with
  | 0 => exact Fin.ext (k0_dev1_eq c)
  | 1 => exact Fin.ext ((k0_dev2_eq c).trans (by revert c; decide))
  | 2 => exact Fin.ext ((k0_dev3_eq c).trans (by revert c; decide))
  | 3 => exact Fin.ext ((k0_dev4_eq c).trans (by revert c; decide))
theorem sendCond_iff (c : Dev nD) (r : Fin 4) : sendCond r c = 1#1 ↔ sendAct c r := by revert c r; decide
theorem recvCond_iff (c : Dev nD) (r : Fin 4) : recvCond r (pos c) = 1#1 ↔ recvAct c r := by revert c r; decide
theorem sendDev_eq (c : Dev nD) (r : Fin 4) (h : sendCond r c = 1#1) : sendDev r c h = up r c := by
  have ha := (sendCond_iff c r).mp h
  match r with
  | 0 => exact Fin.ext ((k0_dev5_eq c).trans (Nat.mod_eq_of_lt ha).symm)
  | 1 => exact Fin.ext ((k0_dev6_eq c).trans (Nat.mod_eq_of_lt ha).symm)
  | 2 => exact Fin.ext ((k0_dev7_eq c).trans (Nat.mod_eq_of_lt ha).symm)
  | 3 => exact Fin.ext ((k0_dev8_eq c).trans (Nat.mod_eq_of_lt ha).symm)

/-! ## The cells -/

/-- A device's cells: the barrier's, the four rounds' send cells, the four rounds' receive cells. -/
abbrev CellIx : Type := Option (Bool × Fin 4)
abbrev csem : CellIx → SemLoc sig
  | none => .reg barS
  | some (false, r) => .dma (sendS r)
  | some (true, r) => .dma (recvS r)
abbrev kcell (ck : Dev nD × CellIx) : GSem nD τ sig := ((ck.1 : Thread nD τ), csem ck.2)

abbrev barCell (c : Dev nD) : GSem nD τ sig := kcell (c, none)
abbrev sendCell (c : Dev nD) (r : Fin 4) : GSem nD τ sig := kcell (c, some (false, r))
abbrev recvCell (c : Dev nD) (r : Fin 4) : GSem nD τ sig := kcell (c, some (true, r))

/-- Which of a device's cells a semaphore is. -/
def kindOf (s : SemLoc sig) : Option CellIx :=
  [none, some (false, 0), some (false, 1), some (false, 2), some (false, 3), some (true, 0), some (true, 1), some (true, 2), some (true, 3)].find?
    fun k => csem k = s
theorem kindOf_csem (k : CellIx) : kindOf (csem k) = some k := by revert k; decide
theorem csem_inj : Function.Injective csem := fun a b h => Option.some_injective _ ((kindOf_csem a).symm.trans ((congrArg kindOf h).trans (kindOf_csem b)))

/-- What a copy of a row is credited with. -/
abbrev N : ℕ := (aM : Memref sig .tc .vmem S1x1024 .f32).view.dmaCredit
theorem slot_credit (r : Fin 4) : (slotM r : Memref sig .tc .vmem S1x1024 .f32).view.amount (.dma (recvS r)) = N := rfl
theorem N_pos : 0 < N := View.dmaCredit_pos _ (by decide)

/-! ## Contents -/

/-- The accumulator times a row. -/
def mulAcc (a b : FVec F S1x1024 .f32) : FVec F S1x1024 .f32 := shapeCast S1x1024 (mulf a b) shapeCasts_S1x1024_S1x1024

/-- Device `c`'s accumulator before round `r`, from every device's `x`. -/
def accAt (X : Dev nD → XBuf F) : ℕ → Dev nD → FVec F S1x1024 .f32
  | 0, c => shapeCast S1x1024 (total (X c)) shapeCasts_S1x1024_S1x1024
  | r + 1, c => if recvAct c r then mulAcc (accAt X r c) (accAt X r (dn r c)) else accAt X r c

/-- Slot `r` of device `c`'s landing buffer, at the contents `f`. -/
def slotP (c : Dev nD) (r : Fin 4) (f : MBuf F) : sProp 𝕄 :=
  (slotM r : Memref sig .tc .vmem S1x1024 .f32).view.loc (c : Thread nD τ) ↦[(slotM r : Memref sig .tc .vmem S1x1024 .f32).view.set]{fullShare} f

omit [FloatOps F] in
instance slotP_storable (c : Dev nD) (r : Fin 4) (f : MBuf F) : BI.Storable (upEmb : UEmb _ 𝕄) (slotP c r f) := by unfold slotP; infer_instance

/-! ## The schedule -/

/-- What device `up r c`'s signal hands `c`: its slot `r`, if `c` sends in round `r`. -/
def barPay (c : Dev nD) (r : Fin 4) : sProp 𝕄 := if sendAct c r then iprop(∃ f : MBuf F, slotP (up r c) r f) else iprop(emp)
/-- What the departure of `c`'s copy hands back: its accumulator. -/
def sendPay (X : Dev nD → XBuf F) (c : Dev nD) (r : Fin 4) : sProp 𝕄 := aP c (accAt X r c)
/-- What the arrival of a copy at `c` hands over: slot `r` with the sender's accumulator in it. -/
def recvPay (X : Dev nD → XBuf F) (c : Dev nD) (r : Fin 4) : sProp 𝕄 :=
  iprop(∃ f : MBuf F, ⌜(slotM r : Memref sig .tc .vmem S1x1024 .f32).view.read (Elt F) f = accAt X r (dn r c)⌝ ∗ slotP c r f)

theorem recvPay_intro (X : Dev nD → XBuf F) (c : Dev nD) (r : Fin 4) (f : MBuf F)
    (h : (slotM r : Memref sig .tc .vmem S1x1024 .f32).view.read (Elt F) f = accAt X r (dn r c)) : slotP c r f ⊢ recvPay X c r := by
  unfold recvPay
  iintro H; iexists f
  isplitr; · ipureintro; exact h
  iexact H

def dutiesOf (c : Dev nD) : Option CellIx → Finset (Fin 4)
  | some none => Finset.univ
  | some (some (false, r)) => if sendAct c r then {0} else ∅
  | some (some (true, r)) => if recvAct c r then {0} else ∅
  | none => ∅
def amountOf' : Option CellIx → ℕ
  | some none => 1
  | _ => N
def payloadOf (X : Dev nD → XBuf F) (c : Dev nD) (d : Fin 4) : Option CellIx → sProp 𝕄
  | some none => barPay c d
  | some (some (false, r)) => sendPay X c r
  | some (some (true, r)) => recvPay X c r
  | none => iprop(emp)

/-- One round of duties: a barrier cell has four of one unit, from the four devices that wait for its signal; a send or
    receive cell has one, a row's credit, if its device sends or receives in that round. -/
def sched (X : Dev nD → XBuf F) : Rounds.Schedule (GSem nD τ sig) (Fin 4) 𝕄 where
  duties g r := if r = 0 ∧ g.1.2 = .tc then dutiesOf g.1.1 (kindOf g.2) else ∅
  unitless _ := False
  amount g _ _ := amountOf' (kindOf g.2)
  payload g _ d := payloadOf X g.1.1 d (kindOf g.2)
  amount_pos g _ _ _ := by
    unfold amountOf'
    split
    · exact Nat.one_pos
    · exact N_pos

instance sched_payload_storable (X : Dev nD → XBuf F) (g : GSem nD τ sig) (r : ℕ) (d : Fin 4) :
    BI.Storable (upEmb : UEmb _ 𝕄) ((sched X).payload g r d) := by
  show BI.Storable upEmb (payloadOf X g.1.1 d (kindOf g.2))
  unfold payloadOf barPay sendPay recvPay
  split <;> (try split) <;> infer_instance

section Sched
variable (X : Dev nD → XBuf F) (c : Dev nD) (r : Fin 4)

theorem duties_cell (k : CellIx) : (sched X).duties (kcell (c, k)) 0 = dutiesOf c (some k) := by
  show (if 0 = 0 ∧ ((c : Thread nD τ)).2 = .tc then dutiesOf c (kindOf (csem k)) else ∅) = _
  rw [if_pos ⟨rfl, rfl⟩, kindOf_csem]
theorem amount_cell (k : CellIx) (d : Fin 4) : (sched X).amount (kcell (c, k)) 0 d = amountOf' (some k) := by
  show amountOf' (kindOf (csem k)) = _
  rw [kindOf_csem]
theorem payload_cell (k : CellIx) (d : Fin 4) : (sched X).payload (kcell (c, k)) 0 d = payloadOf X c d (some k) := by
  show payloadOf X c d (kindOf (csem k)) = _
  rw [kindOf_csem]

theorem duties_later (g : GSem nD τ sig) : ∀ n, 1 ≤ n → (sched X).duties g n = ∅ :=
  fun n hn => if_neg fun h => by omega

theorem duties_bar : (sched X).duties (barCell c) 0 = Finset.univ := duties_cell X c none
theorem duties_send (h : sendAct c r) : (sched X).duties (sendCell c r) 0 = {0} := (duties_cell X c (some (false, r))).trans (if_pos h)
theorem duties_recv (h : recvAct c r) : (sched X).duties (recvCell c r) 0 = {0} := (duties_cell X c (some (true, r))).trans (if_pos h)
/-- A round's cell its device does not use has no duties at all. -/
theorem duties_send_none (h : ¬ sendAct c r) : ∀ n, 0 ≤ n → (sched X).duties (sendCell c r) n = ∅ := fun n _ => by
  rcases Nat.eq_zero_or_pos n with rfl | hn
  · exact (duties_cell X c (some (false, r))).trans (if_neg h)
  · exact duties_later X _ n hn
theorem duties_recv_none (h : ¬ recvAct c r) : ∀ n, 0 ≤ n → (sched X).duties (recvCell c r) n = ∅ := fun n _ => by
  rcases Nat.eq_zero_or_pos n with rfl | hn
  · exact (duties_cell X c (some (true, r))).trans (if_neg h)
  · exact duties_later X _ n hn

theorem payload_bar (d : Fin 4) : (sched X).payload (barCell c) 0 d = barPay c d := payload_cell X c none d
theorem payload_send : (sched X).payload (sendCell c r) 0 0 = sendPay X c r := payload_cell X c (some (false, r)) 0
theorem payload_recv : (sched X).payload (recvCell c r) 0 0 = recvPay X c r := payload_cell X c (some (true, r)) 0

theorem expect_bar : (sched X).expect (barCell c) 0 = 4 := by
  unfold Schedule.expect Schedule.amountOf
  rw [duties_bar, Finset.sum_congr rfl fun d _ => amount_cell X c none d]; rfl
theorem expect_send (h : sendAct c r) : (sched X).expect (sendCell c r) 0 = N := by
  unfold Schedule.expect Schedule.amountOf; rw [duties_send X c r h, Finset.sum_singleton, amount_cell]; rfl
theorem expect_recv (h : recvAct c r) : (sched X).expect (recvCell c r) 0 = N := by
  unfold Schedule.expect Schedule.amountOf; rw [duties_recv X c r h, Finset.sum_singleton, amount_cell]; rfl

theorem rest_bar : bigSep ((sched X).duties (barCell c) 0 \ ∅) (fun d => (sched X).payload (barCell c) 0 d)
    = bigSep Finset.univ fun d : Fin 4 => barPay (F := F) c d := by
  rw [Finset.sdiff_empty, duties_bar]
  exact bigSep_congr fun d _ => payload_bar X c d
theorem rest_send (h : sendAct c r) : bigSep ((sched X).duties (sendCell c r) 0 \ ∅) (fun d => (sched X).payload (sendCell c r) 0 d) = sendPay X c r := by
  rw [Finset.sdiff_empty, duties_send X c r h, bigSep_singleton, payload_send]
theorem rest_recv (h : recvAct c r) : bigSep ((sched X).duties (recvCell c r) 0 \ ∅) (fun d => (sched X).payload (recvCell c r) 0 d) = recvPay X c r := by
  rw [Finset.sdiff_empty, duties_recv X c r h, bigSep_singleton, payload_recv]

end Sched

/-! ## What a device owes -/

/-- Device `c`'s debt of round `r`: a row's credit to the device it sends to. -/
def copyDue (c : Dev nD) (r : Fin 4) : CellTallies nD τ sig Unit := if sendAct c r then tallyAt (recvCell (up r c) r) () N else 0
/-- Its debt of signal `r`: a unit to the barrier cell of the device `2^r` back. -/
def sigDue (c : Dev nD) (r : Fin 4) : CellTallies nD τ sig Unit := tallyAt (barCell (dn r c)) () 1
/-- The debts of rounds or signals `j` on. -/
def dueFrom (due : Fin 4 → CellTallies nD τ sig Unit) (j : ℕ) : CellTallies nD τ sig Unit := ∑ r : Fin 4, if j ≤ r.val then due r else 0

theorem dueFrom_peel (due : Fin 4 → CellTallies nD τ sig Unit) (r : Fin 4) : dueFrom due r.val = dueFrom due (r.val + 1) + due r := by
  unfold dueFrom
  rw [Fin.sum_univ_four, Fin.sum_univ_four]
  fin_cases r <;> simp only [Fin.reduceFinMk, Fin.val_zero, Fin.val_one, Fin.val_two, Fin.isValue] <;> simp [add_comm, add_left_comm, add_assoc]
theorem dueFrom_four (due : Fin 4 → CellTallies nD τ sig Unit) : dueFrom due 4 = 0 := by
  unfold dueFrom; exact Finset.sum_eq_zero fun r _ => if_neg (by omega)

theorem dueFrom_pos {due : Fin 4 → CellTallies nD τ sig Unit} {j : ℕ} {g : GSem nD τ sig} {u : Unit} (h : 0 < dueFrom due j g u) :
    ∃ r : Fin 4, j ≤ r.val ∧ 0 < due r g u := by
  by_contra hn
  push Not at hn
  refine absurd h (Nat.not_lt.mpr (Nat.le_zero.mpr ?_))
  unfold dueFrom
  rw [Finset.sum_apply, Finsupp.finset_sum_apply]
  refine Finset.sum_eq_zero fun r _ => ?_
  by_cases hj : j ≤ r.val
  · rw [if_pos hj]; exact Nat.le_zero.mp (hn r hj)
  · rw [if_neg hj]; rfl

/-- What is left to pay before signal `j`: every round's copy and the signals from `j` on. -/
def owedSig (c : Dev nD) (j : ℕ) : CellTallies nD τ sig Unit := dueFrom (copyDue c) 0 + dueFrom (sigDue c) j
theorem owedSig_peel (c : Dev nD) (r : Fin 4) : owedSig c r.val = owedSig c (r.val + 1) + tallyAt (barCell (dn r c)) () 1 := by
  unfold owedSig; rw [dueFrom_peel, ← add_assoc]; rfl
theorem owedSig_four (c : Dev nD) : owedSig c 4 = dueFrom (copyDue c) 0 := by unfold owedSig; rw [dueFrom_four, add_zero]

theorem tallyAt_pos {g₀ g : GSem nD τ sig} {u : Unit} {n : ℕ} (h : 0 < (tallyAt g₀ () n : CellTallies nD τ sig Unit) g u) : g = g₀ := by
  rw [tallyAt_apply] at h
  by_contra hn
  rw [if_neg fun h' => hn h'.1] at h
  exact Nat.lt_irrefl 0 h
theorem copyDue_pos {c : Dev nD} {r : Fin 4} {g : GSem nD τ sig} {u : Unit} (h : 0 < copyDue c r g u) : g = recvCell (up r c) r := by
  unfold copyDue at h
  by_cases ha : sendAct c r
  · rw [if_pos ha] at h; exact tallyAt_pos h
  · rw [if_neg ha] at h; exact absurd h (Nat.lt_irrefl 0)

/-! ## The order of the cells -/

def L (g : GSem nD τ sig) : Finset Unit := if g.1.2 = .tc then {()} else ∅
/-- Barrier cells come first, then the receive cells round by round; staging and send cells are below all of them. -/
def lvOf : Option CellIx → ℕ
  | some none => 1
  | some (some (true, r)) => 2 + r.val
  | _ => 0
def lv (g : GSem nD τ sig) (_ : Unit) : ℕ := lvOf (kindOf g.2)

theorem L_of_ne (g : GSem nD τ sig) (h : g.1.2 ≠ .tc) : L g = ∅ := if_neg h
theorem L_tc (c : Dev nD) (sm : SemLoc sig) : L ((c : Thread nD τ), sm) = {()} := if_pos rfl
theorem lv_cell (ck : Dev nD × CellIx) : lv (kcell ck) () = lvOf (some ck.2) := congrArg lvOf (kindOf_csem ck.2)

omit [FloatOps F] in
/-- A wait at or below a level every debt lies above is allowed. -/
theorem mayWait_cut (c : Dev nD) (s : SemLoc sig) (cut : ℕ) (O : CellTallies nD τ sig Unit) (hs : lvOf (kindOf s) ≤ cut)
    (hO : ∀ g u, 0 < O g u → ∃ ck : Dev nD × CellIx, g = kcell ck ∧ cut < lvOf (some ck.2)) :
    (levAts L lv : sProp 𝕄) ⊢ MayWait (c : Thread nD τ) s () O :=
  MayOwe.of_cut (L := L) (lev := lv) cut
    (fun p hp => by rw [Finset.mem_singleton.mp hp, L_tc]; exact Finset.mem_singleton_self _)
    (fun g u hg => by obtain ⟨ck, rfl, -⟩ := hO g u hg; exact Finset.mem_singleton_self _)
    (fun p hp => by rw [Finset.mem_singleton.mp hp]; exact hs)
    (fun g u hg => by obtain ⟨ck, rfl, h⟩ := hO g u hg; rw [lv_cell]; exact h)

theorem copies_above (c : Dev nD) (j : ℕ) (g : GSem nD τ sig) (u : Unit) (h : 0 < dueFrom (copyDue c) j g u) :
    ∃ ck : Dev nD × CellIx, g = kcell ck ∧ 1 + j < lvOf (some ck.2) := by
  obtain ⟨r, hr, h⟩ := dueFrom_pos h
  exact ⟨_, copyDue_pos h, by show 1 + j < 2 + r.val; omega⟩
theorem owedSig_above (c : Dev nD) (j : ℕ) (g : GSem nD τ sig) (u : Unit) (h : 0 < owedSig c j g u) :
    ∃ ck : Dev nD × CellIx, g = kcell ck ∧ 0 < lvOf (some ck.2) := by
  unfold owedSig at h
  rw [Pi.add_apply, Finsupp.add_apply] at h
  rcases Nat.add_pos_iff_pos_or_pos.mp h with h | h
  · obtain ⟨ck, hg, hl⟩ := copies_above c 0 g u h; exact ⟨ck, hg, by omega⟩
  · obtain ⟨r, -, h⟩ := dueFrom_pos h; exact ⟨_, tallyAt_pos h, Nat.one_pos⟩

omit [FloatOps F] in
theorem mayWait_stage (c : Dev nD) (s : SemLoc sig) (hs : kindOf s = none) (O : CellTallies nD τ sig Unit) (hO : O = owedSig c 0 ∨ O = 0) :
    (levAts L lv : sProp 𝕄) ⊢ MayWait (c : Thread nD τ) s () O := by
  rcases hO with rfl | rfl
  · exact mayWait_cut c s 0 _ (by rw [hs]; exact Nat.le_refl 0) (owedSig_above c 0)
  · rw [MayWait_zero]; iintro -; iempintro
omit [FloatOps F] in
theorem mayWait_bar (c : Dev nD) : (levAts L lv : sProp 𝕄) ⊢ MayWait (c : Thread nD τ) (csem none) () (dueFrom (copyDue c) 0) :=
  mayWait_cut c _ 1 _ (by rw [kindOf_csem]; exact Nat.le_refl 1) (copies_above c 0)
omit [FloatOps F] in
theorem mayWait_send (c : Dev nD) (r : Fin 4) (j : ℕ) : (levAts L lv : sProp 𝕄) ⊢ MayWait (c : Thread nD τ) (csem (some (false, r))) () (dueFrom (copyDue c) j) :=
  mayWait_cut c _ 0 _ (by rw [kindOf_csem]; exact Nat.le_refl 0) fun g u h => by
    obtain ⟨ck, hg, hl⟩ := copies_above c j g u h; exact ⟨ck, hg, by omega⟩
omit [FloatOps F] in
theorem mayWait_recv (c : Dev nD) (r : Fin 4) :
    (levAts L lv : sProp 𝕄) ⊢ MayWait (c : Thread nD τ) (csem (some (true, r))) () (dueFrom (copyDue c) (r.val + 1)) :=
  mayWait_cut c _ (1 + (r.val + 1)) _ (by rw [kindOf_csem]; show 2 + r.val ≤ _; omega) (copies_above c (r.val + 1))

/-! ## The records every device shares -/

section Records
variable (X : Dev nD → XBuf F) (K : Dev nD × CellIx → ℕ)

/-- Every cell's invariant, under the names `K`, -/
def cellInvs : sProp 𝕄 := bigSep Finset.univ fun ck : Dev nD × CellIx => cellInv ER (sched X) (K ck) (kcell ck)
/-- and that every cell has reached round 0. -/
def cellMarks : sProp 𝕄 := bigSep Finset.univ fun ck : Dev nD × CellIx => reached ER (kcell ck) 0
def records : sProp 𝕄 := iprop(cellInvs X K ∗ cellMarks)

instance records_persistent : BI.Persistent (records X K) := by unfold records cellInvs cellMarks; infer_instance

theorem cellInvs_at (ck : Dev nD × CellIx) : cellInvs X K ⊢ cellInv ER (sched X) (K ck) (kcell ck) := bigSep_elim (Finset.mem_univ ck)
theorem cellMarks_at (ck : Dev nD × CellIx) : (cellMarks : sProp 𝕄) ⊢ reached ER (kcell ck) 0 := bigSep_elim (Finset.mem_univ ck)
theorem inv_at (ck : Dev nD × CellIx) : records X K ⊢ cellInv ER (sched X) (K ck) (kcell ck) := by
  unfold records; iintro ⟨H, -⟩; iapply (cellInvs_at X K ck); iexact H
theorem reached_at (ck : Dev nD × CellIx) : records X K ⊢ (reached ER (kcell ck) 0 : sProp 𝕄) := by
  unfold records; iintro ⟨-, H⟩; iapply (cellMarks_at (F := F) ck); iexact H

end Records

end Cert.KernelIdeal.Scan
-- ==== Proof.KernelIdeal.Body.lean ====
/-
The kernel's body on one device: the handshake, the send and the receive of a round, a round, and the whole body, from
what the launch deals a device to the finished buffer and every cell closed.
-/
module

public import proofs.«01_k».proof.Proof.KernelIdeal.Protocol
public import Idealize.ShloMosaic.Lib.Ring

@[expose] public section

noncomputable section

namespace Cert.KernelIdeal.Scan

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] {α : Type}

local notation "𝕄" => MT nD τ sig Unit (Elt F) ℕ UU ℕ

/-! ## What a device starts a round with -/

/-- The slot a device did not hand out. -/
def slotKeep (c : Dev nD) (r : Fin 4) : sProp 𝕄 := if recvAct c r then iprop(emp) else iprop(∃ f : MBuf F, slotP c r f)

omit [FloatOps F] in
/-- A slot goes to the device that will write it, if there is one. -/
theorem slot_out (c : Dev nD) (r : Fin 4) : iprop(∃ f : MBuf F, slotP c r f) ⊢ iprop(barPay (F := F) (dn r c) r ∗ slotKeep c r) := by
  unfold barPay slotKeep
  by_cases h : recvAct c r
  · rw [if_pos ((sendAct_dn c r).mpr h), if_pos h, up_dn]
    iintro H; isplitl [H]; · iexact H
    iempintro
  · rw [if_neg (fun h' => h ((sendAct_dn c r).mp h')), if_neg h]
    iintro H; isplitr; · iempintro
    iexact H

omit [FloatOps F] in
theorem slots_out (c : Dev nD) : (bigSep Finset.univ fun r : Fin 4 => iprop(∃ f : MBuf F, slotP c r f))
    ⊢ bigSep Finset.univ fun r : Fin 4 => iprop(barPay (F := F) (dn r c) r ∗ slotKeep c r) := bigSep_mono fun r _ => slot_out c r

/-- What round `r` uses: the positions at its two cells, the duty tokens of the copy, the credit of the copy to come. -/
def ticket (c : Dev nD) (r : Fin 4) : sProp 𝕄 :=
  iprop(atPos ER (sendCell c r) 0 ∅ 0 ∗ atPos ER (recvCell c r) 0 ∅ 0 ∗ dutyTok ER (sendCell c r) 0 0 ∗ dutyTok ER (recvCell (up r c) r) 0 0
    ∗ cred (tallyAt (recvCell c r) () (if recvAct c r then N else 0)))

section Steps

variable (X : Dev nD → XBuf F) (K : Dev nD × CellIx → ℕ) (c : Dev nD) (r : Fin 4) {Q : α → sProp (MT nD τ sig Unit (Elt F) ℕ UU ℕ)}

/-- Signal `r` of the handshake, to the device `2^r` back. -/
theorem wp_signal (j : ℕ) (hj : r.val = j) (W : Waits sig Unit) (k : CoreProg F α) :
    iprop(records X K ∗ owes (c : Thread nD τ) (owedSig c j) W ∗ dutyTok ER (barCell (dn r c)) 0 r ∗ barPay (F := F) (dn r c) r)
      ⊢ iprop((owes (c : Thread nD τ) (owedSig c (j + 1)) W -∗ WP c k Q) -∗ WP c (signal r c k) Q) := by
  subst hj
  unfold signal
  rw [sigDev_eq, owedSig_peel]
  simp only [semSignalWord, Prog.lift, Prog.bind_op, Prog.bind_ret, Prog.pure_eq_ret]
  iintro ⟨#HR, HO, Ht, Hp⟩ Hk
  iapply (Rounds.wp_signal 𝒱₀ ER (sched X) (c : Thread nD τ) none (dst := (dn r c : Thread nD τ)) (κ := K (dn r c, none))
      (d := r) (by rw [duties_bar]; exact Finset.mem_univ _) ((amount_cell X (dn r c) none r).trans (by decide)) () (owedSig c (r.val + 1)) rfl)
    $$ [HO Ht Hp]
  · isplitr; · iapply (inv_at X K (dn r c, none)); iexact HR
    isplitl [HO]; · iexact HO
    isplitl [Ht]; · iexact Ht
    isplitl [Hp]; · iapply (Entails.of_eq (payload_bar X (dn r c) r).symm); iexact Hp
    iapply (reached_at X K (dn r c, none)); iexact HR
  iexact Hk

/-- The wait for the four signals: the slots of the devices this one sends to. -/
theorem wp_handshake (W : Waits sig Unit) (k : CoreProg F α) :
    iprop(records X K ∗ levAts L lv ∗ owes (c : Thread nD τ) (dueFrom (copyDue c) 0) W ∗ atPos ER (barCell c) 0 ∅ 0 ∗ cred (tallyAt (barCell c) () 4))
      ⊢ iprop((∀ W', owes (c : Thread nD τ) (dueFrom (copyDue c) 0) W' -∗ semVal (barCell c) 0 -∗ (bigSep Finset.univ fun d : Fin 4 => barPay (F := F) c d) -∗ WP c k Q)
        -∗ WP c (semWaitWord barS 4#32 >>= fun _ => k) Q) := by
  simp only [semWaitWord, Prog.lift, Prog.bind_op, Prog.bind_ret, Prog.pure_eq_ret]
  iintro ⟨#HR, #Hlev, HO, Hat, Hc⟩ Hk
  iapply (Rounds.wp_wait_rest_token 𝒱₀ ER (sched X) (c : Thread nD τ) none (κ := K (c, none))
      (wpE_semWait_eq 𝒱₀ (c : Thread nD τ) none Set.univ) (Set.mem_univ _) () (O := dueFrom (copyDue c) 0) (W := W) (R := 0) (m := 0) (T := ∅)
      (by rw [expect_bar]; decide)) $$ [HO Hat Hc]
  · isplitr; · iapply (inv_at X K (c, none)); iexact HR
    isplitl [Hc]; · iexact Hc
    isplitl [HO]; · iexact HO
    isplitr; · iapply (mayWait_bar c); iexact Hlev
    iexact Hat
  iintro ⟨HO, Hat, -, Hpay⟩
  ihave Hp := (Entails.of_eq (rest_bar X c)) $$ Hpay
  imod (Rounds.cell_close ER (sched X) (Set.mem_univ (K (c, none))) (fun h => h) (R := 0 + 1) (duties_later X (barCell c))) $$ [Hat] with Hz
  · isplitr; · iapply (inv_at X K (c, none)); iexact HR
    iexact Hat
  iapply Hk $$ HO Hz Hp

/-- The copy of round `r`, addressed to `n = up r c`. -/
theorem wp_copy (n : Dev nD) (hn : n = up r c) (ha : sendAct c r) {hsc : (slotM r : Memref sig (Dev.tc n : Thread nD τ).2.kind .vmem S1x1024 .f32).view.ref.isScScratch = false}
    {hsrc : (aM : Memref sig .tc .vmem S1x1024 .f32).view.WordExact} {hdst : (slotM r : Memref sig .tc .vmem S1x1024 .f32).view.WordExact}
    {hsem : DmaTarget.Typed .vmem (.dma (recvS r)) (.remote (Dev.tc n : Thread nD τ) (slotM r : Memref sig .tc .vmem S1x1024 .f32) (.dma (sendS r)) hsc)}
    (W : Waits sig Unit) (k : PUnit → CoreProg F α) :
    iprop(records X K ∗ aP c (accAt X r c) ∗ (∃ f : MBuf F, slotP (up r c) r f) ∗ dutyTok ER (sendCell c r) 0 0 ∗ dutyTok ER (recvCell (up r c) r) 0 0
        ∗ owes (c : Thread nD τ) (dueFrom (copyDue c) r.val) W)
      ⊢ iprop(((cred (tallyAt (sendCell c r) () N) ∗ owes (c : Thread nD τ) (dueFrom (copyDue c) (r.val + 1)) W) -∗ WP c (k ⟨⟩) Q)
        -∗ WP c (.op (.enqueueDma aM (.remote (Dev.tc n : Thread nD τ) (slotM r) (.dma (sendS r)) hsc) (.dma (recvS r)) hsrc hdst hsem) k) Q) := by
  subst hn
  rw [dueFrom_peel, show copyDue c r = tallyAt (recvCell (up r c) r) () N from if_pos ha]
  iintro ⟨#HR, Ha, ⟨%fn, Hslot⟩, HtS, HtV, HO⟩
  unfold slotP
  ihave Ha' := (Entails.of_eq (show (aP c (accAt X r c) : sProp 𝕄)
      = ((aM : Memref sig .tc .vmem S1x1024 .f32).view.loc (c : Thread nD τ) ↦[(aM : Memref sig .tc .vmem S1x1024 .f32).view.set]{fullShare} accAt X r c) from by
        rw [View.set_whole])) $$ Ha
  iapply (Rounds.wp_send_pointsTo 𝒱₀ ER (sched X) (c : Thread nD τ) none (κ₁ := K (c, some (false, r))) (κ₂ := K (up r c, some (true, r)))
      (r₁ := 0) (r₂ := 0) (d₁ := 0) (d₂ := 0) (fd := fn)
      (by rw [duties_send X c r ha]; exact Finset.mem_singleton_self _)
      (by rw [duties_recv X (up r c) r ((recvAct_up c r).mpr ha)]; exact Finset.mem_singleton_self _)
      () () N (slot_credit r) (amount_cell X c (some (false, r)) 0) (amount_cell X (up r c) (some (true, r)) 0) (dueFrom (copyDue c) (r.val + 1)) rfl (W := W)
      (by rw [payload_send, View.set_whole]; exact BI.Entails.refl _)
      (by
        rw [payload_recv]
        exact recvPay_intro X (up r c) r _ (by rw [View.read_write_univ, dn_up]; exact View.read_whole _ _))) $$ [Ha' Hslot HO HtS HtV]
  isplitr; · iapply (inv_at X K (c, some (false, r))); iexact HR
  isplitr; · iapply (inv_at X K (up r c, some (true, r))); iexact HR
  isplitl [Ha']; · iexact Ha'
  isplitl [Hslot]; · iexact Hslot
  isplitl [HO]; · iexact HO
  isplitl [HtS]; · iexact HtS
  isplitr; · iapply (reached_at X K (c, some (false, r))); iexact HR
  isplitl [HtV]; · iexact HtV
  iapply (reached_at X K (up r c, some (true, r))); iexact HR

/-- Round `r`'s send and the wait for its departure: the accumulator is unchanged and the send cell closed. -/
theorem wp_sendIf (W : Waits sig Unit) (k : CoreProg F α) :
    iprop(records X K ∗ levAts L lv ∗ aP c (accAt X r c) ∗ barPay (F := F) c r ∗ atPos ER (sendCell c r) 0 ∅ 0 ∗ dutyTok ER (sendCell c r) 0 0
        ∗ dutyTok ER (recvCell (up r c) r) 0 0 ∗ owes (c : Thread nD τ) (dueFrom (copyDue c) r.val) W)
      ⊢ iprop((∀ W', aP c (accAt X r c) -∗ semVal (sendCell c r) 0 -∗ owes (c : Thread nD τ) (dueFrom (copyDue c) (r.val + 1)) W' -∗ WP c k Q)
        -∗ WP c (sendIf r c k) Q) := by
  by_cases ha : sendAct c r
  · have hc := (sendCond_iff c r).mpr ha
    rw [sendIf_pos hc]
    unfold sendK barPay
    rw [if_pos ha]
    iintro ⟨#HR, #Hlev, Ha, Hslot, Hat, HtS, HtV, HO⟩ Hk
    iapply (wp_copy X K c r _ (sendDev_eq c r hc) ha W) $$ [Ha Hslot HtS HtV HO]
    · isplitr; · iexact HR
      isplitl [Ha]; · iexact Ha
      isplitl [Hslot]; · iexact Hslot
      isplitl [HtS]; · iexact HtS
      isplitl [HtV] <;> iassumption
    iintro ⟨Hc, HO⟩
    iapply (Rounds.wp_wait_rest_token 𝒱₀ ER (sched X) (c : Thread nD τ) none (κ := K (c, some (false, r)))
        (wpE_waitDma2_eq 𝒱₀ (c : Thread nD τ) none Set.univ) (Set.mem_univ _) () (O := dueFrom (copyDue c) (r.val + 1)) (W := W) (R := 0) (m := 0) (T := ∅)
        (by rw [Nat.zero_add, expect_send X c r ha])) $$ [Hc HO Hat]
    · isplitr; · iapply (inv_at X K (c, some (false, r))); iexact HR
      isplitl [Hc]; · iexact Hc
      isplitl [HO]; · iexact HO
      isplitr; · iapply (mayWait_send c r (r.val + 1)); iexact Hlev
      iexact Hat
    iintro ⟨HO, Hat, -, Hpay⟩
    ihave Ha := (Entails.of_eq (rest_send X c r ha)) $$ Hpay
    imod (Rounds.cell_close ER (sched X) (Set.mem_univ (K (c, some (false, r)))) (fun h => h) (R := 0 + 1) (duties_later X (sendCell c r))) $$ [Hat] with Hz
    · isplitr; · iapply (inv_at X K (c, some (false, r))); iexact HR
      iexact Hat
    unfold sendPay
    iapply Hk $$ Ha Hz HO
  · rw [sendIf_neg (fun h => ha ((sendCond_iff c r).mp h))]
    rw [dueFrom_peel, show copyDue c r = 0 from if_neg ha, add_zero]
    iintro ⟨#HR, -, Ha, -, Hat, -, -, HO⟩ Hk
    imod (Rounds.cell_close ER (sched X) (Set.mem_univ (K (c, some (false, r)))) (fun h => h) (R := 0) (duties_send_none X c r ha)) $$ [Hat] with Hz
    · isplitr; · iapply (inv_at X K (c, some (false, r))); iexact HR
      iexact Hat
    iapply Hk $$ Ha Hz HO

/-- Slot `r`, loaded as the kernel does, is what the copy wrote. -/
theorem mulSlot_eq (a : FVec F S1x1024 .f32) (f : MBuf F) :
    mulSlot a ((mM : Memref sig .tc .vmem S4x1x1024 .f32).view.readAt (Elt F) (slotR r).toLoadRect f)
      = mulAcc a ((slotM r : Memref sig .tc .vmem S1x1024 .f32).view.read (Elt F) f) := rfl

theorem slot_subset : (mM : Memref sig .tc .vmem S4x1x1024 .f32).view.setOn (slotR r).toLoadRect.set ⊆ (slotM r : Memref sig .tc .vmem S1x1024 .f32).view.set := by
  exact (View.set_slice _ _).ge.trans (View.set_reshape _ _).ge

/-- Round `r`'s receive: the accumulator times what landed, and the receive cell closed. -/
theorem wp_recvIf (W : Waits sig Unit) (k : CoreProg F α) :
    iprop(records X K ∗ levAts L lv ∗ aP c (accAt X r c) ∗ slotKeep c r ∗ atPos ER (recvCell c r) 0 ∅ 0
        ∗ cred (tallyAt (recvCell c r) () (if recvAct c r then N else 0)) ∗ owes (c : Thread nD τ) (dueFrom (copyDue c) (r.val + 1)) W)
      ⊢ iprop((∀ W', aP c (accAt X (r.val + 1) c) -∗ (∃ f : MBuf F, slotP c r f) -∗ semVal (recvCell c r) 0
            -∗ owes (c : Thread nD τ) (dueFrom (copyDue c) (r.val + 1)) W' -∗ WP c k Q)
        -∗ WP c (recvIf r (pos c) k) Q) := by
  by_cases ha : recvAct c r
  · rw [recvIf_pos ((recvCond_iff c r).mpr ha), show accAt X (r.val + 1) c = mulAcc (accAt X r c) (accAt X r (dn r c)) from if_pos ha]
    unfold recvK slotKeep
    rw [if_pos ha, if_pos ha]
    iintro ⟨#HR, #Hlev, Ha, -, Hat, Hc, HO⟩ Hk
    iapply (Rounds.wp_wait_rest_token 𝒱₀ ER (sched X) (c : Thread nD τ) none (κ := K (c, some (true, r)))
        (wpE_waitDma2_eq 𝒱₀ (c : Thread nD τ) none Set.univ) (Set.mem_univ _) () (O := dueFrom (copyDue c) (r.val + 1)) (W := W) (R := 0) (m := 0) (T := ∅)
        (by rw [Nat.zero_add, expect_recv X c r ha])) $$ [Hc HO Hat]
    · isplitr; · iapply (inv_at X K (c, some (true, r))); iexact HR
      isplitl [Hc]; · iexact Hc
      isplitl [HO]; · iexact HO
      isplitr; · iapply (mayWait_recv c r); iexact Hlev
      iexact Hat
    iintro ⟨HO, Hat, -, Hpay⟩
    ihave Hp := (Entails.of_eq (rest_recv X c r ha)) $$ Hpay
    imod (Rounds.cell_close ER (sched X) (Set.mem_univ (K (c, some (true, r)))) (fun h => h) (R := 0 + 1) (duties_later X (recvCell c r))) $$ [Hat] with Hz
    · isplitr; · iapply (inv_at X K (c, some (true, r))); iexact HR
      iexact Hat
    unfold recvPay
    icases Hp with ⟨%f, %hf, Hslot⟩
    iapply (wp_ldA c (accAt X r c)) $$ Ha; iintro Ha
    unfold slotP
    iapply (wp_load 𝒱₀ (c : Thread nD τ) none Set.univ (m := mM) (slot_subset r)) $$ Hslot; iintro Hslot
    iapply (wp_ldA c (accAt X r c)) $$ Ha; iintro Ha
    iapply (wp_stA c (accAt X r c)) $$ Ha; iintro Ha
    rw [mulSlot_eq, hf]
    iapply Hk $$ Ha [Hslot] Hz HO
    iexists f; iexact Hslot
  · rw [recvIf_neg (fun h => ha ((recvCond_iff c r).mp h)), show accAt X (r.val + 1) c = accAt X r c from if_neg ha]
    unfold slotKeep
    rw [if_neg ha]
    iintro ⟨#HR, -, Ha, Hslot, Hat, -, HO⟩ Hk
    imod (Rounds.cell_close ER (sched X) (Set.mem_univ (K (c, some (true, r)))) (fun h => h) (R := 0) (duties_recv_none X c r ha)) $$ [Hat] with Hz
    · isplitr; · iapply (inv_at X K (c, some (true, r))); iexact HR
      iexact Hat
    iapply Hk $$ Ha Hslot Hz HO

/-- Round `r`: the send, four blocks of the scan, the receive. -/
theorem wp_round (j : ℕ) (hj : r.val = j) (W : Waits sig Unit) (f : OBuf F) (hf : Scanned (X c) (4 * j) f) (k : FVec F S1x1024 .f32 → CoreProg F α) :
    iprop(records X K ∗ levAts L lv ∗ xP c (X c) ∗ oP c f ∗ aP c (accAt X j c) ∗ barPay (F := F) c r ∗ slotKeep c r ∗ ticket c r
        ∗ owes (c : Thread nD τ) (dueFrom (copyDue c) j) W)
      ⊢ iprop((∀ W' f', ⌜Scanned (X c) (4 * (j + 1)) f'⌝ -∗ xP c (X c) -∗ oP c f' -∗ aP c (accAt X (j + 1) c) -∗ (∃ g : MBuf F, slotP c r g)
            -∗ semVal (sendCell c r) 0 -∗ semVal (recvCell c r) 0 -∗ owes (c : Thread nD τ) (dueFrom (copyDue c) (j + 1)) W'
            -∗ WP c (k (carryAt (X c) (4 * (j + 1)))) Q)
        -∗ WP c (round r c (carryAt (X c) (4 * j)) k) Q) := by
  subst hj
  unfold round ticket
  iintro ⟨#HR, #Hlev, Hx, Ho, Ha, Hbar, Hkeep, ⟨HatS, HatV, HtS, HtV, Hc⟩, HO⟩ Hk
  iapply (wp_sendIf X K c r W) $$ [Ha Hbar HatS HtS HtV HO]
  · isplitr; · iexact HR
    isplitr; · iexact Hlev
    isplitl [Ha]; · iexact Ha
    isplitl [Hbar]; · iexact Hbar
    isplitl [HatS]; · iexact HatS
    isplitl [HtS]; · iexact HtS
    isplitl [HtV] <;> iassumption
  iintro %W1 Ha HzS HO
  iapply (wp_scans c (X c) 4 (4 * r.val) (by omega) f hf) $$ [Hx Ho]
  · isplitl [Hx] <;> iassumption
  iintro %f' %hf' Hx Ho
  iapply (wp_recvIf X K c r W1) $$ [Ha Hkeep HatV Hc HO]
  · isplitr; · iexact HR
    isplitr; · iexact Hlev
    isplitl [Ha]; · iexact Ha
    isplitl [Hkeep]; · iexact Hkeep
    isplitl [HatV]; · iexact HatV
    isplitl [Hc] <;> iassumption
  iintro %W2 Ha Hslot HzV HO
  iapply Hk $$ [] Hx Ho Ha Hslot HzS HzV HO
  ipureintro; exact hf'

end Steps

/-! ## The landing buffer, slot by slot -/

omit [FloatOps F] in
theorem mem_slot (r : Fin 4) (i : S4x1x1024.Idx) : i ∈ (slotM r : Memref sig .tc .vmem S1x1024 .f32).view.set ↔ (i 0).val = r.val := by
  rw [show (slotM r : Memref sig .tc .vmem S1x1024 .f32).view.set = (slotR r).set from (View.set_reshape _ _).trans (View.set_slice_whole _ _)]
  refine Rect.mem_set_unit.trans ⟨fun h => ?_, fun h a => ?_⟩
  · have h0 : r.val ≤ (i 0).val ∧ (i 0).val < r.val + 1 := h 0
    omega
  · match a with
    | ⟨0, _⟩ => show r.val ≤ (i 0).val ∧ (i 0).val < r.val + 1; omega
    | ⟨1, _⟩ => exact ⟨Nat.zero_le _, by show (i 1).val < 0 + 1; have : (i 1).val < 1 := (i 1).isLt; omega⟩
    | ⟨2, _⟩ => exact ⟨Nat.zero_le _, by show (i 2).val < 0 + 1024; have : (i 2).val < 1024 := (i 2).isLt; omega⟩

/-- The elements of slot `r`. -/
abbrev slotSet (c : Dev nD) (r : Fin 4) : Finset (Idx ((c : Thread nD τ).loc cc0_scratch1)) := (slotM r : Memref sig .tc .vmem S1x1024 .f32).view.set

omit [FloatOps F] in
theorem slots_disjoint (c : Dev nD) (r r' : Fin 4) (h : r ≠ r') : Disjoint (slotSet c r) (slotSet c r') :=
  Finset.disjoint_left.mpr fun i hi hi' => h (Fin.ext (((mem_slot r i).mp hi).symm.trans ((mem_slot r' i).mp hi')))
omit [FloatOps F] in
theorem slots_cover (c : Dev nD) : Finset.univ.biUnion (slotSet c) = Finset.univ :=
  Finset.eq_univ_iff_forall.mpr fun i => Finset.mem_biUnion.mpr ⟨⟨(i 0).val, (i 0).isLt⟩, Finset.mem_univ _, (mem_slot _ i).mpr rfl⟩

/-- Device `c`'s landing buffer, at some contents. -/
def landP (c : Dev nD) : sProp 𝕄 := iprop(∃ f : MBuf F, ((c : Thread nD τ).loc cc0_scratch1) ↦{fullShare} f)

omit [FloatOps F] in
theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ

omit [FloatOps F] in
theorem slotP_some (c : Dev nD) (r : Fin 4) (f : MBuf F) : slotP c r f ⊢ iprop(∃ f : MBuf F, slotP c r f) := by
  iintro H; iexists f; iexact H
omit [FloatOps F] in
theorem landP_split (c : Dev nD) : landP (F := F) c ⊢ bigSep Finset.univ fun r : Fin 4 => iprop(∃ f : MBuf F, slotP c r f) := by
  unfold landP
  iintro ⟨%f, H⟩
  ihave H' := (Entails.of_eq (Ring.pointsTo_blocks (slotSet c) (slots_disjoint c) (slots_cover c) f)) $$ H
  iapply (show (bigSep Finset.univ fun r : Fin 4 => (slotP c r f : sProp 𝕄)) ⊢ bigSep Finset.univ fun r : Fin 4 => iprop(∃ f : MBuf F, slotP c r f) from
    bigSep_mono fun r _ => slotP_some c r f)
  unfold slotP
  iexact H'
omit [FloatOps F] in
theorem landP_join (c : Dev nD) (f₀ : MBuf F) : (bigSep Finset.univ fun r : Fin 4 => iprop(∃ f : MBuf F, slotP c r f)) ⊢ landP (F := F) c := by
  unfold slotP landP
  exact Ring.pointsTo_blocks_join_exists (slotSet c) (slots_disjoint c) (slots_cover c) f₀

/-! ## The whole body -/

section Whole

variable (X : Dev nD → XBuf F) (K : Dev nD × CellIx → ℕ) (c : Dev nD) {Q : PUnit → sProp (MT nD τ sig Unit (Elt F) ℕ UU ℕ)}

/-- What device `c` scales its running products by: the product of every earlier device's rows. -/
def factor : FVec F S1x1024 .f32 := divf (accAt X 4 c) (total (X c))
/-- Device `c`'s result. -/
def resultAt : OBuf F := outBuf (X c) (factor X c)

/-- The protocol's resources device `c` starts with: its position at its barrier cell and the credit of the four signals,
    the duty tokens of the four signals it gives, the four rounds' tickets. -/
def dealt : sProp 𝕄 :=
  iprop(atPos ER (barCell c) 0 ∅ 0 ∗ cred (tallyAt (barCell c) () 4) ∗ (bigSep Finset.univ fun r : Fin 4 => dutyTok ER (barCell (dn r c)) 0 r)
    ∗ bigSep Finset.univ fun r : Fin 4 => ticket c r)

/-- A device's cells, closed. -/
def closed : sProp 𝕄 :=
  iprop(semVal (barCell c) 0 ∗ (bigSep Finset.univ fun r : Fin 4 => semVal (sendCell c r) 0) ∗ bigSep Finset.univ fun r : Fin 4 => semVal (recvCell c r) 0)

set_option maxHeartbeats 1600000 in
theorem wp_body (W : Waits sig Unit) (f : OBuf F) :
    iprop(records X K ∗ levAts L lv ∗ dealt (F := F) c ∗ xP c (X c) ∗ oP c f ∗ (∃ a, aP c a) ∗ landP (F := F) c ∗ owes (c : Thread nD τ) (owedSig c 0) W)
      ⊢ iprop((∀ W', xP c (X c) -∗ oP c (resultAt X c) -∗ (∃ a, aP c a) -∗ landP (F := F) c -∗ closed (F := F) c -∗ owes (c : Thread nD τ) 0 W' -∗ Q ⟨⟩)
        -∗ WP c body Q) := by
  unfold body dealt
  simp only [wp_deviceId]
  iintro ⟨#HR, #Hlev, ⟨Hat, Hc, Htoks, Htick⟩, Hx, Ho, ⟨%a, Ha⟩, Hland, HO⟩ Hk
  ihave Hslots := (landP_split c) $$ Hland
  ihave Hslots' := (slots_out (F := F) c) $$ Hslots
  ihave Hsl := (Entails.of_eq (bigSep_four _)) $$ Hslots'
  icases Hsl with ⟨⟨Hb0, Hk0⟩, ⟨Hb1, Hk1⟩, ⟨Hb2, Hk2⟩, ⟨Hb3, Hk3⟩⟩
  ihave Htk := (Entails.of_eq (bigSep_four _)) $$ Htoks
  icases Htk with ⟨Ht0, Ht1, Ht2, Ht3⟩
  ihave Htc := (Entails.of_eq (bigSep_four _)) $$ Htick
  icases Htc with ⟨Hr0, Hr1, Hr2, Hr3⟩
  -- the handshake
  iapply (wp_signal X K c 0 0 rfl W) $$ [HO Ht0 Hb0]
  · isplitr; · iexact HR
    isplitl [HO]; · iexact HO
    isplitl [Ht0] <;> iassumption
  iintro HO
  iapply (wp_signal X K c 1 (0 + 1) rfl W) $$ [HO Ht1 Hb1]
  · isplitr; · iexact HR
    isplitl [HO]; · iexact HO
    isplitl [Ht1] <;> iassumption
  iintro HO
  iapply (wp_signal X K c 2 (0 + 1 + 1) rfl W) $$ [HO Ht2 Hb2]
  · isplitr; · iexact HR
    isplitl [HO]; · iexact HO
    isplitl [Ht2] <;> iassumption
  iintro HO
  iapply (wp_signal X K c 3 (0 + 1 + 1 + 1) rfl W) $$ [HO Ht3 Hb3]
  · isplitr; · iexact HR
    isplitl [HO]; · iexact HO
    isplitl [Ht3] <;> iassumption
  iintro HO
  rw [show owedSig c (0 + 1 + 1 + 1 + 1) = dueFrom (copyDue c) 0 from owedSig_four c]
  iapply (wp_handshake X K c W) $$ [HO Hat Hc]
  · isplitr; · iexact HR
    isplitr; · iexact Hlev
    isplitl [HO]; · iexact HO
    isplitl [Hat] <;> iassumption
  iintro %W0 HO HzB Hbars
  ihave Hbs := (Entails.of_eq (bigSep_four _)) $$ Hbars
  icases Hbs with ⟨Hp0, Hp1, Hp2, Hp3⟩
  -- the product of the device's rows
  iapply (wp_ldX c (X c) 0) $$ Hx; iintro Hx
  iapply (wp_prods c (X c) 15 1) $$ Hx; iintro Hx
  iapply (wp_ldA c a) $$ Ha; iintro Ha
  iapply (wp_stA c a) $$ Ha; iintro Ha
  rw [show prodFrom (X c) 15 1 (rowprod (xBlk (X c) 0)) = total (X c) from rfl,
    show shapeCast S1x1024 (total (X c)) shapeCasts_S1x1024_S1x1024 = accAt X 0 c from rfl, show k0_pay28 (F := F) = carryAt (X c) (4 * 0) from rfl]
  -- the four rounds
  iapply (wp_round X K c 0 0 rfl W0 f (fun b hb => absurd hb (Nat.not_lt_zero _))) $$ [Hx Ho Ha Hp0 Hk0 Hr0 HO]
  · isplitr; · iexact HR
    isplitr; · iexact Hlev
    isplitl [Hx]; · iexact Hx
    isplitl [Ho]; · iexact Ho
    isplitl [Ha]; · iexact Ha
    isplitl [Hp0]; · iexact Hp0
    isplitl [Hk0]; · iexact Hk0
    isplitl [Hr0] <;> iassumption
  iintro %W1 %f1 %hf1 Hx Ho Ha Hs0 HzS0 HzV0 HO
  iapply (wp_round X K c 1 (0 + 1) rfl W1 f1 hf1) $$ [Hx Ho Ha Hp1 Hk1 Hr1 HO]
  · isplitr; · iexact HR
    isplitr; · iexact Hlev
    isplitl [Hx]; · iexact Hx
    isplitl [Ho]; · iexact Ho
    isplitl [Ha]; · iexact Ha
    isplitl [Hp1]; · iexact Hp1
    isplitl [Hk1]; · iexact Hk1
    isplitl [Hr1] <;> iassumption
  iintro %W2 %f2 %hf2 Hx Ho Ha Hs1 HzS1 HzV1 HO
  iapply (wp_round X K c 2 (0 + 1 + 1) rfl W2 f2 hf2) $$ [Hx Ho Ha Hp2 Hk2 Hr2 HO]
  · isplitr; · iexact HR
    isplitr; · iexact Hlev
    isplitl [Hx]; · iexact Hx
    isplitl [Ho]; · iexact Ho
    isplitl [Ha]; · iexact Ha
    isplitl [Hp2]; · iexact Hp2
    isplitl [Hk2]; · iexact Hk2
    isplitl [Hr2] <;> iassumption
  iintro %W3 %f3 %hf3 Hx Ho Ha Hs2 HzS2 HzV2 HO
  iapply (wp_round X K c 3 (0 + 1 + 1 + 1) rfl W3 f3 hf3) $$ [Hx Ho Ha Hp3 Hk3 Hr3 HO]
  · isplitr; · iexact HR
    isplitr; · iexact Hlev
    isplitl [Hx]; · iexact Hx
    isplitl [Ho]; · iexact Ho
    isplitl [Ha]; · iexact Ha
    isplitl [Hp3]; · iexact Hp3
    isplitl [Hk3]; · iexact Hk3
    isplitl [Hr3] <;> iassumption
  iintro %W4 %f4 %hf4 Hx Ho Ha Hs3 HzS3 HzV3 HO
  -- the scaling by what came before
  iapply (wp_ldA c (accAt X (0 + 1 + 1 + 1 + 1) c)) $$ Ha; iintro Ha
  rw [show divf (accAt X (0 + 1 + 1 + 1 + 1) c) (total (X c)) = factor X c from rfl]
  iapply (wp_scales c (X c) (factor X c) 16 0 (by decide) f4 (Scanned.scaled hf4)) $$ Ho
  iintro %f5 %hf5 Ho
  simp only [wp_ret]
  imodintro
  rw [show f5 = resultAt X c from Scaled.eq_outBuf hf5, show dueFrom (copyDue c) (0 + 1 + 1 + 1 + 1) = 0 from dueFrom_four _]
  icases Hs0 with ⟨%g0, Hs0⟩
  iapply Hk $$ Hx Ho [Ha] [Hs0 Hs1 Hs2 Hs3] [HzB HzS0 HzV0 HzS1 HzV1 HzS2 HzV2 HzS3 HzV3] HO
  · iexists _; iexact Ha
  · iapply (landP_join c g0)
    rw [bigSep_four]
    isplitl [Hs0]; · iexists g0; iexact Hs0
    isplitl [Hs1]; · iexact Hs1
    isplitl [Hs2] <;> iassumption
  · unfold closed
    rw [bigSep_four, bigSep_four]
    isplitl [HzB]; · iexact HzB
    isplitl [HzS0 HzS1 HzS2 HzS3]
    · isplitl [HzS0]; · iexact HzS0
      isplitl [HzS1]; · iexact HzS1
      isplitl [HzS2] <;> iassumption
    · isplitl [HzV0]; · iexact HzV0
      isplitl [HzV1]; · iexact HzV1
      isplitl [HzV2] <;> iassumption

end Whole

end Cert.KernelIdeal.Scan
-- ==== Proof.KernelIdeal.Launch.lean ====
/-
The launch: what every device starts its body with, how the launch's own resources are dealt out, and the run of the
whole mesh from any memory whose counters are zero.
-/
module

public import proofs.«01_k».proof.Proof.KernelIdeal.Body
public import proofs.«01_k».proof.Proof.Gen.KernelIdeal.Launch
public import Idealize.ShloMosaic.Lib.Pipeline.Launch
public import Idealize.ShloMosaic.Lib.Pipeline.Kit
public import Idealize.ShloMosaic.Lib.Pipeline.CollectiveSegs

@[expose] public section

noncomputable section

namespace Cert.KernelIdeal.Scan

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## A device's cells, one by one -/

omit [FloatOps F] in
/-- Eight conjuncts and a rest, as two groups of four. -/
theorem sep_groups (a b c d e f g h : sProp 𝕄) :
    iprop(a ∗ b ∗ c ∗ d ∗ e ∗ f ∗ g ∗ h) = iprop((a ∗ b ∗ c ∗ d) ∗ (e ∗ f ∗ g ∗ h)) := by
  have step (P Q R : sProp 𝕄) : iprop((P ∗ Q) ∗ R) = iprop(P ∗ Q ∗ R) := equiv_iff.mp ⟨BI.sep_assoc, BI.sep_assoc'⟩
  rw [step, step, step]

omit [FloatOps F] in
/-- Something for every cell of a device: for its barrier cell, for its four send cells and for its four receive cells. -/
theorem bigSep_cells (Φ : CellIx → sProp 𝕄) :
    bigSep Finset.univ Φ = iprop(Φ none ∗ (bigSep Finset.univ fun r : Fin 4 => Φ (some (false, r))) ∗ bigSep Finset.univ fun r : Fin 4 => Φ (some (true, r))) := by
  rw [bigSep_univ_eq_bigSepL [none, some (false, 0), some (false, 1), some (false, 2), some (false, 3), some (true, 0), some (true, 1), some (true, 2), some (true, 3)]
    (by decide) (by decide) Φ, bigSep_four, bigSep_four, ← sep_groups]
  rfl

/-- The launch's own semaphores: the sends' and the receives'. -/
def ownSem : Fin 8 → SemLoc sig
  | 0 => csem (some (false, 0)) | 1 => csem (some (false, 1)) | 2 => csem (some (false, 2)) | 3 => csem (some (false, 3))
  | 4 => csem (some (true, 0)) | 5 => csem (some (true, 1)) | 6 => csem (some (true, 2)) | 7 => csem (some (true, 3))

theorem ownSemFacts : Pipeline.OwnSemFacts cfg0.spec ownSem := by decide

omit [FloatOps F] in
theorem ownSems0_eq (c : Dev nD) : (Pipeline.ownSems0 (Ix := Unit) (Name := ℕ) (U := UU) (Lvl := ℕ) (Val := Elt F) (τ := τ) ownSem c : sProp 𝕄)
    = iprop((bigSep Finset.univ fun r : Fin 4 => semVal (sendCell c r) 0) ∗ bigSep Finset.univ fun r : Fin 4 => semVal (recvCell c r) 0) := by
  rw [Pipeline.ownSems0_eq_of_list c ownSem [0, 1, 2, 3, 4, 5, 6, 7] (by decide) (by decide), bigSep_four, bigSep_four, ← sep_groups]
  rfl
omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- Every cell's counter is one of the launch's own or the barrier's. -/
theorem sems_cells (c : Dev nD) :
    iprop(Pipeline.ownSems0 (Ix := Unit) (Name := ℕ) (U := UU) (Lvl := ℕ) (Val := Elt F) (τ := τ) ownSem c ∗ unscopedSems0 c)
      ⊢ (bigSep Finset.univ fun k : CellIx => semVal (kcell (c, k)) 0 : sProp 𝕄) := by
  rw [ownSems0_eq, unscopedSems0_eq, bigSep_cells]
  iintro ⟨⟨HS, HV⟩, HB⟩
  isplitl [HB]; · iexact HB
  isplitl [HS] <;> iassumption

/-! ## The credit the mesh owes a device -/

theorem kcell_inj : Function.Injective (kcell : Dev nD × CellIx → GSem nD τ sig) := fun ⟨c, k⟩ ⟨c', k'⟩ h => by
  have h1 : c = c' := congrArg (fun g : GSem nD τ sig => g.1.1) h
  have h2 : k = k' := csem_inj (congrArg Prod.snd h)
  rw [h1, h2]

omit [FloatOps F] in
theorem dueFrom_apply (due : Fin 4 → CellTallies nD τ sig Unit) (g : GSem nD τ sig) : dueFrom due 0 g () = ∑ r : Fin 4, due r g () := by
  unfold dueFrom
  rw [Fin.sum_univ_four, Fin.sum_univ_four]
  rfl

omit [FloatOps F] in
theorem tally_other {ck ck' : Dev nD × CellIx} (h : ck ≠ ck') (n : ℕ) : (tallyAt (kcell ck) () n : CellTallies nD τ sig Unit) (kcell ck') () = 0 := by
  rw [tallyAt_apply, if_neg fun h' => h (kcell_inj h'.1.symm)]
omit [FloatOps F] in
theorem tally_self (ck : Dev nD × CellIx) (n : ℕ) : (tallyAt (kcell ck) () n : CellTallies nD τ sig Unit) (kcell ck) () = n := by
  rw [tallyAt_apply, if_pos ⟨rfl, rfl⟩]

omit [FloatOps F] in
/-- Device `d` owes device `c`'s barrier cell one unit for every round in which `c` is the next device. -/
theorem owed_bar (d c : Dev nD) : owedSig d 0 (barCell c) () = ∑ r : Fin 4, if d = up r.val c then 1 else 0 := by
  unfold owedSig
  rw [Pi.add_apply, Finsupp.add_apply, dueFrom_apply, dueFrom_apply, Finset.sum_eq_zero, Nat.zero_add]
  · refine Finset.sum_congr rfl fun r _ => ?_
    unfold sigDue
    by_cases h : d = up r.val c
    · rw [if_pos h, h, dn_up, tally_self]
    · rw [if_neg h, tally_other fun h' => h ((up_dn r.val d).symm.trans (congrArg (up r.val) (congrArg Prod.fst h')))]
  · intro r _
    unfold copyDue
    split
    · exact tally_other (by simp) _
    · rfl

omit [FloatOps F] in
/-- It owes device `c`'s receive cell of round `r` a row if it is the device before `c` and `c` receives. -/
theorem owed_recv (d c : Dev nD) (r : Fin 4) : owedSig d 0 (recvCell c r) () = if d = dn r c then (if recvAct c r then N else 0) else 0 := by
  unfold owedSig
  rw [Pi.add_apply, Finsupp.add_apply, dueFrom_apply, dueFrom_apply, add_comm, Finset.sum_eq_zero, Nat.zero_add]
  · rw [Finset.sum_eq_single r]
    · unfold copyDue
      by_cases h : d = dn r c
      · subst h
        rw [if_pos rfl, up_dn]
        by_cases ha : recvAct c r
        · rw [if_pos ha, if_pos ((sendAct_dn c r).mpr ha), tally_self]
        · rw [if_neg ha, if_neg fun h => ha ((sendAct_dn c r).mp h)]; rfl
      · rw [if_neg h]
        split
        · exact tally_other (fun h' => h ((dn_up r.val d).symm.trans (congrArg (dn r.val) (congrArg Prod.fst h')))) _
        · rfl
    · intro s _ hs
      unfold copyDue
      split
      · exact tally_other (fun h' => hs (by simpa using congrArg Prod.snd h')) _
      · rfl
    · intro h; exact absurd (Finset.mem_univ r) h
  · intro s _
    exact tally_other (by simp) _

omit [FloatOps F] in
theorem launch_bar (c : Dev nD) :
    tallyOn (barCell c) (launchCredit (Pipeline.owing fun d => owedSig d 0) 0 (barCell c)) = (tallyAt (barCell c) () 4 : CellTallies nD τ sig Unit) := by
  unfold tallyAt; refine congrArg _ (Finsupp.ext fun u => ?_); cases u
  rw [Pipeline.launchCredit_owing, Finsupp.single_eq_same, Finset.sum_congr rfl fun d _ => owed_bar d c, Finset.sum_comm,
    Finset.sum_congr rfl fun (r : Fin 4) _ => Finset.sum_ite_eq' Finset.univ (up r.val c) fun _ => 1,
    Finset.sum_congr rfl fun (r : Fin 4) _ => if_pos (Finset.mem_univ _)]
  rfl
omit [FloatOps F] in
theorem launch_recv (c : Dev nD) (r : Fin 4) :
    tallyOn (recvCell c r) (launchCredit (Pipeline.owing fun d => owedSig d 0) 0 (recvCell c r))
      = (tallyAt (recvCell c r) () (if recvAct c r then N else 0) : CellTallies nD τ sig Unit) := by
  unfold tallyAt; refine congrArg _ (Finsupp.ext fun u => ?_); cases u
  rw [Pipeline.launchCredit_owing, Finsupp.single_eq_same, Finset.sum_congr rfl fun d _ => owed_recv d c r,
    Finset.sum_ite_eq' Finset.univ (dn r c) fun _ => if recvAct c r then N else 0, if_pos (Finset.mem_univ _)]

omit [FloatOps F] in
/-- A device's launch credit: the four units of its barrier cell, and a row for every round it receives in. -/
theorem creds (c : Dev nD) :
    (Pipeline.launchCred (fun d => owedSig d 0) c : sProp 𝕄)
      ⊢ iprop(cred (tallyAt (barCell c) () 4) ∗ bigSep Finset.univ fun r : Fin 4 => cred (tallyAt (recvCell c r) () (if recvAct c r then N else 0))) := by
  unfold Pipeline.launchCred
  refine (bigSep_subset (Finset.subset_univ (Finset.univ.map ⟨csem, csem_inj⟩))).trans ?_
  rw [bigSep_map, bigSep_cells]
  refine (Entails.of_eq (congrArg₂ (fun P Q => iprop(P ∗ _ ∗ Q)) (congrArg cred (launch_bar c))
    (bigSep_congr fun (r : Fin 4) _ => congrArg cred (launch_recv c r)))).trans ?_
  iintro ⟨HB, -, HV⟩
  isplitl [HB] <;> iassumption

/-! ## The minted duty tokens -/

/-- The duties of a device's own cells: the barrier cell's four, one of each send cell and one of each receive cell. -/
def tokCell : Fin 3 × Fin 4 → CellIx × Fin 4
  | (0, r) => (none, r)
  | (1, r) => (some (false, r), 0)
  | (2, r) => (some (true, r), 0)
theorem tokCell_inj : Function.Injective tokCell := by decide
def tokOf (cj : Dev nD × Fin 3 × Fin 4) : GSem nD τ sig × ℕ × Fin 4 := (kcell (cj.1, (tokCell cj.2).1), 0, (tokCell cj.2).2)
theorem tokOf_inj : Function.Injective tokOf := fun ⟨c, j⟩ ⟨c', j'⟩ h => by
  have h1 := kcell_inj (congrArg Prod.fst h)
  have hc : c = c' := congrArg Prod.fst h1
  have hj : j = j' := tokCell_inj (Prod.ext (congrArg Prod.snd h1) (congrArg (fun x : GSem nD τ sig × ℕ × Fin 4 => x.2.2) h))
  rw [hc, hj]
def meshCells : Finset (GSem nD τ sig) := Finset.univ.map ⟨kcell, kcell_inj⟩
def meshToks : Finset (GSem nD τ sig × ℕ × Fin 4) := Finset.univ.map ⟨tokOf, tokOf_inj⟩

/-- The launch's element: the staging pipeline's part and the protocol's. -/
def u₀ : UU :=
  (initOf (Pipeline.cells cfgs cellOf_inj) (Pipeline.launchToks cfgs cellOf_inj), initOf meshCells meshToks)

/-- The duty tokens of device `c`'s own cells. -/
def toks (c : Dev nD) : sProp 𝕄 :=
  iprop((bigSep Finset.univ fun r : Fin 4 => dutyTok ER (barCell c) 0 r) ∗ (bigSep Finset.univ fun r : Fin 4 => dutyTok ER (sendCell c r) 0 0)
    ∗ bigSep Finset.univ fun r : Fin 4 => dutyTok ER (recvCell c r) 0 0)

omit [FloatOps F] in
theorem bigSep_three (Φ : Fin 3 → sProp 𝕄) : bigSep Finset.univ Φ = iprop(Φ 0 ∗ Φ 1 ∗ Φ 2) := bigSep_univ_eq_bigSepL [0, 1, 2] (by decide) (by decide) Φ

section Deal

variable (X : Dev nD → XBuf F)

/-- Every cell's round state, a device's positions and its own cells' tokens: what the launch's element gives a device. -/
def minted (c : Dev nD) : sProp 𝕄 :=
  iprop((bigSep Finset.univ fun k : CellIx => roundState ER (sched X) (kcell (c, k)) 0)
    ∗ (bigSep Finset.univ fun k : CellIx => iprop(atPos ER (kcell (c, k)) 0 ∅ 0 ∗ reached ER (kcell (c, k)) 0)) ∗ toks c)

theorem fund_mesh : BI.own (ER (initOf meshCells meshToks)) ⊢ (|==> bigSep Finset.univ (minted X) : sProp 𝕄) := by
  have hX (Φ : GSem nD τ sig → sProp 𝕄) : bigSep meshCells Φ = bigSep Finset.univ fun c : Dev nD => bigSep Finset.univ fun k : CellIx => Φ (kcell (c, k)) := by
    unfold meshCells; rw [bigSep_map, bigSep_univ_prod]; rfl
  have hT : bigSep meshToks (fun x => (dutyTok ER x.1 x.2.1 x.2.2 : sProp 𝕄)) = bigSep Finset.univ fun c : Dev nD => toks c := by
    unfold meshToks; rw [bigSep_map, bigSep_univ_prod]
    exact bigSep_congr fun c _ => by unfold toks; rw [bigSep_univ_prod, bigSep_three]; rfl
  iintro HX
  imod (Rounds.fund ER (sched X) meshCells meshToks) $$ HX with ⟨Hst, Hr, Hat, Htok⟩
  imodintro
  ihave Hst' := (Entails.of_eq (hX fun g => roundState ER (sched X) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold minted; simp only [bigSep_sep']
  isplitl [Hst']; · iexact Hst'
  isplitl [Hat' Hr']
  · isplitl [Hat'] <;> iassumption
  iexact Htok'

/-- What stays with device `c`: its positions, and the tokens of the duties it pays. -/
def held (c : Dev nD) : sProp 𝕄 :=
  iprop((bigSep Finset.univ fun k : CellIx => atPos ER (kcell (c, k)) 0 ∅ 0)
    ∗ (bigSep Finset.univ fun r : Fin 4 => dutyTok ER (barCell (dn r c)) 0 r) ∗ (bigSep Finset.univ fun r : Fin 4 => dutyTok ER (sendCell c r) 0 0)
    ∗ bigSep Finset.univ fun r : Fin 4 => dutyTok ER (recvCell (up r c) r) 0 0)
/-- What the launch makes of all devices' resources together, for device `c`. -/
def shared (c : Dev nD) : sProp 𝕄 := iprop(∃ K, records X K ∗ held c)

omit [FloatOps F] in
/-- A token for every device and round, passed in each round to another device. -/
theorem bigSep_shift (e : Fin 4 → Dev nD ≃ Dev nD) (Φ : Dev nD → Fin 4 → sProp 𝕄) :
    (bigSep Finset.univ fun c : Dev nD => bigSep Finset.univ fun r : Fin 4 => Φ c r)
      = bigSep Finset.univ fun c : Dev nD => bigSep Finset.univ fun r : Fin 4 => Φ (e r c) r := by
  simp only [bigSep_four, bigSep_sep']
  rw [bigSep_univ_equiv (e 0) fun c => Φ c 0, bigSep_univ_equiv (e 1) fun c => Φ c 1, bigSep_univ_equiv (e 2) fun c => Φ c 2,
    bigSep_univ_equiv (e 3) fun c => Φ c 3]

omit [FloatOps F] in
/-- The barrier tokens go to the devices that signal, the receive tokens to the devices that send. -/
theorem toks_around (P : Dev nD → sProp 𝕄) :
    iprop((bigSep Finset.univ P) ∗ bigSep Finset.univ fun c : Dev nD => (toks c : sProp 𝕄))
      = bigSep Finset.univ fun c : Dev nD => iprop(P c
        ∗ (bigSep Finset.univ fun r : Fin 4 => dutyTok ER (barCell (dn r c)) 0 r) ∗ (bigSep Finset.univ fun r : Fin 4 => dutyTok ER (sendCell c r) 0 0)
        ∗ bigSep Finset.univ fun r : Fin 4 => dutyTok ER (recvCell (up r c) r) 0 0) := by
  unfold toks
  rw [bigSep_sep', bigSep_sep', bigSep_sep', bigSep_sep', bigSep_sep', bigSep_shift (fun r => (upEquiv r).symm) (fun c r => dutyTok ER (barCell c) 0 r),
    bigSep_shift (fun r => upEquiv r) (fun c r => dutyTok ER (recvCell c r) 0 0)]
  rfl

/-- One device's cells, as invariants at some names. -/
theorem core_alloc (c : Dev nD) :
    iprop(Pipeline.ownSems0 (Ix := Unit) (Name := ℕ) (U := UU) (Lvl := ℕ) (Val := Elt F) (τ := τ) ownSem c ∗ unscopedSems0 c ∗ minted X c)
      ⊢ |={Set.univ}=> iprop((bigSep Finset.univ fun k => iprop(∃ κ : ℕ, cellInv ER (sched X) κ (kcell (c, k))))
          ∗ (bigSep Finset.univ fun k => iprop(atPos ER (kcell (c, k)) 0 ∅ 0 ∗ reached ER (kcell (c, k)) 0)) ∗ toks c) := by
  unfold minted
  iintro ⟨Hos, Hus, Hst, Hat, Htok⟩
  ihave Hv := (sems_cells (F := F) c) $$ [Hos Hus]
  · isplitl [Hos] <;> iassumption
  imod (show iprop((bigSep Finset.univ fun k : CellIx => semVal (kcell (c, k)) 0) ∗ bigSep Finset.univ fun k : CellIx => roundState ER (sched X) (kcell (c, k)) 0)
      ⊢ (|={Set.univ}=> bigSep Finset.univ fun k => iprop(∃ κ : ℕ, cellInv ER (sched X) κ (kcell (c, k))) : sProp 𝕄) from by
        rw [← bigSep_sep']
        exact (bigSep_mono fun k _ => (Rounds.body_intro ER (sched X) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem shared_intro (K : Dev nD × CellIx → ℕ) (c : Dev nD) : iprop(records X K ∗ held c) ⊢ shared X c := by
  unfold shared; iintro H; iexists K; iexact H

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (sched X) κ (kcell (c, k))))
          ∗ (bigSep Finset.univ fun k => iprop(atPos ER (kcell (c, k)) 0 ∅ 0 ∗ reached ER (kcell (c, k)) 0)) ∗ toks c) : sProp 𝕄)
      ⊢ bigSep Finset.univ (shared X) := by
  rw [bigSep_sep', bigSep_sep', ← bigSep_univ_prod (fun ck : Dev nD × CellIx => iprop(∃ κ : ℕ, cellInv ER (sched X) κ (kcell ck))),
    bigSep_congr (s := Finset.univ) (fun (c : Dev nD) _ => bigSep_sep' Finset.univ (fun k : CellIx => (atPos ER (kcell (c, k)) 0 ∅ 0 : sProp 𝕄)) (fun k => reached ER (kcell (c, k)) 0)),
    bigSep_sep', ← bigSep_univ_prod (fun ck : Dev nD × CellIx => (reached ER (kcell ck) 0 : sProp 𝕄))]
  iintro ⟨HI, ⟨Hat, #HR⟩, Htok⟩
  ihave HK := (BI.bigSep_exists_pi Finset.univ (fun (ck : Dev nD × CellIx) (κ : ℕ) => (cellInv ER (sched X) κ (kcell ck) : sProp 𝕄))) $$ HI
  icases HK with ⟨%K, #HI⟩
  iapply (bigSep_with_persistent (R := records X K) fun c _ => shared_intro X K c)
  isplitr
  · unfold records cellInvs cellMarks; isplitl; · iexact HI
    iexact HR
  · iapply (Entails.of_eq (toks_around fun c : Dev nD => bigSep Finset.univ fun k : CellIx => (atPos ER (kcell (c, k)) 0 ∅ 0 : sProp 𝕄)))
    isplitl [Hat]; · iexact Hat
    iexact Htok

/-- All devices' cells become invariants under one update. -/
theorem glob : (bigSep Finset.univ fun c => iprop(Pipeline.ownSems0 (Ix := Unit) (Name := ℕ) (U := UU) (Lvl := ℕ) (Val := Elt F) (τ := τ) ownSem c ∗ unscopedSems0 c ∗ minted X c) : sProp 𝕄)
    ⊢ |={Set.univ}=> bigSep Finset.univ (shared X) :=
  ((bigSep_mono fun c _ => core_alloc X c).trans (bigSep_fupd _ _)).trans (BI.fupd_mono (regroup X))

/-- What device `c`'s body starts from. -/
def start (c : Dev nD) : sProp 𝕄 := iprop((∃ K, records X K ∗ dealt (F := F) c) ∗ levAts L lv)

theorem start_of (c : Dev nD) : iprop(shared X c ∗ Pipeline.launchCred (fun d => owedSig d 0) c ∗ levAts L lv) ⊢ start X c := by
  unfold shared start held dealt ticket
  rw [bigSep_cells, bigSep_sep', bigSep_sep', bigSep_sep', bigSep_sep']
  iintro ⟨⟨%K, HR, ⟨HaB, HaS, HaV⟩, HtB, HtS, HtV⟩, Hcr, Hlev⟩
  ihave Hc := (creds (F := F) c) $$ Hcr
  icases Hc with ⟨HcB, HcV⟩
  isplitr [Hlev]
  · iexists K
    isplitl [HR]; · iexact HR
    isplitl [HaB]; · iexact HaB
    isplitl [HcB]; · iexact HcB
    isplitl [HtB]; · iexact HtB
    isplitl [HaS]; · iexact HaS
    isplitl [HaV]; · iexact HaV
    isplitl [HtS]; · iexact HtS
    isplitl [HtV] <;> iassumption
  · iexact Hlev

end Deal

/-! ## The launch's data -/

variable (m : (ℓ : Loc nD τ sig) → Buf (Elt F) ℓ) (ρ : Dev nD → PrngReg)

def s₀ : MemSt nD τ sig (Elt F) := ⟨m, fun _ => 0, ρ⟩
/-- Device `c`'s `x` as staged. -/
def xstg (c : Dev nD) : XBuf F :=
  (win0_0.blk (0 : Fin 1)).view.read (Elt F) ((s₀ m ρ).mem ((c : Thread nD τ).loc main_arg0))

/-- Before the body: what it starts from, and the two scratch buffers. -/
def Φ₀ (c : Dev nD) : sProp 𝕄 := iprop(start (xstg m ρ) c ∗ (∃ a, aP c a) ∗ landP (F := F) c)
/-- After it: the two scratch buffers, and the cells closed. -/
def Φ₁ (c : Dev nD) : sProp 𝕄 := iprop((∃ a, aP (F := F) c a) ∗ landP (F := F) c ∗ closed (F := F) c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => resultAt (xstg m ρ) c
  Φ t := match t with
    | ⟨0, _⟩ => Φ₀ m ρ c
    | ⟨_ + 1, _⟩ => Φ₁ c
  q _ := fullShare
  owed t := match t with
    | ⟨0, _⟩ => owedSig c 0
    | ⟨_ + 1, _⟩ => 0

theorem share_eq (c : Dev nD) (w : Fin cfg0.W) : (dats m ρ 0 c).share w = fullShare := by unfold Dat.share; split <;> rfl

def t₀ : Fin cfg0.N := t0_0
theorem fin_N (t : Fin cfg0.N) : t = t₀ := fin_N0 t
theorem fetch_0 (t : Fin cfg0.N) : (cfg0.win (0 : Fin 2)).fetch t = true := by rw [fin_N t]; rfl

omit [FloatOps F] in
theorem bigSep_W (Φ : Fin cfg0.W → sProp 𝕄) : bigSep Finset.univ Φ = iprop(Φ (0 : Fin 2) ∗ Φ (1 : Fin 2)) := bigSep_W0 Φ

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer of device `c` at the contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))
def bodyPost (c : Dev nD) : sProp 𝕄 :=
  iprop(Φ₁ c ∗ (dats m ρ 0 c).owesAt () t₀.succ ∗ stg c cc0_stg0_0 (xstg m ρ c) ∗ stg c cc0_stg1_0 (resultAt (xstg m ρ) c))

theorem bodyPost_intro (c : Dev nD) (W : Waits sig Unit) :
    iprop(xP c (xstg m ρ c) ∗ oP c (resultAt (xstg m ρ) c) ∗ (∃ a, aP c a) ∗ landP (F := F) c ∗ closed (F := F) c ∗ owes (c : Thread nD τ) 0 W) ⊢ bodyPost m ρ c := by
  unfold bodyPost Φ₁ Dat.owesAt Pipeline.owesWithin
  rw [show (dats m ρ 0 c).owed t₀.succ = 0 from rfl]
  iintro ⟨Hx, Ho, Ha, Hl, Hc, HO⟩
  isplitl [Ha Hl Hc]
  · isplitl [Ha]; · iexact Ha
    isplitl [Hl] <;> iassumption
  isplitl [HO]
  · iexists W
    isplitr; · ipureintro; exact fun _ _ => Or.inl trivial
    iexact HO
  isplitl [Hx]
  · iexists _; isplitr; · (ipureintro; rfl)
    iexact Hx
  iexists _; isplitr; · (ipureintro; rfl)
  iexact Ho

theorem body_runs (c : Dev nD) : bodyPre m ρ c ⊢ WP c body fun _ => bodyPost m ρ c := by
  unfold bodyPre Φ₀ start Dat.owesAt Pipeline.owesWithin
  rw [show (dats m ρ 0 c).owed t₀.castSucc = owedSig c 0 from rfl]
  iintro ⟨⟨⟨⟨%K, HR, Hd⟩, Hlev⟩, Ha, Hl⟩, ⟨%W, -, HO⟩, ⟨%d0, %g0, %hg0, Hx⟩, ⟨%d1, %g1, %hg1, Ho⟩⟩
  have hx : g0 = xstg m ρ c := by rw [hg0]; unfold Dat.before; rw [if_pos (fetch_0 t₀)]; rfl
  subst hx
  iapply (wp_body (xstg m ρ) K c W g1) $$ [HR Hd Hlev Ha Hl HO Hx Ho]
  · isplitl [HR]; · iexact HR
    isplitl [Hlev]; · iexact Hlev
    isplitl [Hd]; · iexact Hd
    isplitl [Hx]; · iexact Hx
    isplitl [Ho]; · iexact Ho
    isplitl [Ha]; · iexact Ha
    isplitl [Hl] <;> iassumption
  iintro %W' Hx Ho Ha Hl Hc HO
  iapply (bodyPost_intro m ρ c W')
  isplitl [Hx]; · iexact Hx
  isplitl [Ho]; · iexact Ho
  isplitl [Ha]; · iexact Ha
  isplitl [Hl]; · iexact Hl
  isplitl [Hc] <;> iassumption

set_option maxRecDepth 8000 in
set_option maxHeartbeats 4000000 in
/-- The launch's obligation for the body on device `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre m ρ c ⊢ wp frame (wpE (defs₀ (F := F)) 𝒱₀ (c : Thread nD τ) none) Set.univ
    (cc0_body xM (Memref.isWhole_whole _) oM (Memref.isWhole_whole _) aM (Memref.isWhole_whole _) mM (Memref.isWhole_whole _) cc0_scratch2 cc0_scratch3)
    (fun _ => bodyPost m ρ c)
  rw [body_eq]
  exact body_runs m ρ c

/-! ## The launch's side conditions -/

theorem start_intro (c : Dev nD) :
    iprop(Pipeline.unscopedRestP Pipeline.Prefetch.none cfg0.spec c (fun b => m ((c : Thread nD τ).loc b)) ∗ levAts L lv
        ∗ Pipeline.launchCred (fun d => owedSig d 0) c ∗ prngReg c (ρ c) ∗ shared (xstg m ρ) c)
      ⊢ |={Set.univ}=> iprop(start (xstg m ρ) c ∗ emp) := by
  iintro ⟨-, Hlev, Hcr, -, HG⟩
  imodintro
  isplitl
  · iapply (start_of (xstg m ρ) c)
    isplitl [HG]; · iexact HG
    isplitl [Hcr] <;> iassumption
  · iempintro

theorem phi0_intro (c : Dev nD) :
    iprop(start (xstg m ρ) c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ landP
  iintro ⟨Hs, -, Ha, Hl⟩
  isplitl [Hs]; · iexact Hs
  isplitl [Ha] <;> iassumption

theorem phi1_exit (c : Dev nD) :
    (dats m ρ 0 c).Φ (Fin.last cfg0.N) ⊢ iprop(unscopedSems0 c ∗ Pipeline.ownSems0 ownSem c ∗ Pipeline.scopedRest cfg0.spec c) := by
  rw [show (dats m ρ 0 c).Φ (Fin.last cfg0.N) = Φ₁ c from rfl, scopedRest0_eq, ownSems0_eq, unscopedSems0_eq]
  unfold Φ₁ landP closed
  iintro ⟨Ha, Hl, HB, HS, HV⟩
  isplitl [HB]; · iexact HB
  isplitl [HS HV]
  · isplitl [HS] <;> iassumption
  isplitl [Ha] <;> iassumption

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- Device `c`'s window array after the launch. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
set_option maxHeartbeats 4000000 in
/-- From any memory with zero counters, every weakly fair execution of the program on the sixteen devices ends, with each
    device's window arrays at the computed contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := fun c => owedSig c 0) (howed₀ := fun _ => rfl) (howedN := fun _ => rfl)
    (L := L) (lv := lv) (hL := L_of_ne) (hwaits := waits m ρ)
    (G := minted (xstg m ρ)) (G' := shared (xstg m ρ)) (u₀ := u₀)
    (hu₀ := by
      unfold u₀
      iintro Hu
      ihave H := (ownU_pair _ _) $$ Hu
      icases H with ⟨HP, HX⟩
      imod (fund_mesh (xstg m ρ)) $$ HX with HG
      imodintro
      isplitl [HP] <;> iassumption)
    (hglob := glob (xstg m ρ))
    (hA := fun _ _ => rfl) (hpf := fun _ k => k.elim0)
    (X := start (xstg m ρ)) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The `x` array after the run holds what it held. -/
theorem finalA_x (c : Dev nD) : finalA m ρ c (0 : Fin 2) = m ((c : Thread nD τ).loc main_arg0) :=
  (dats (F := F) m ρ 0 c).arrAt_in (0 : Fin 2) rfl _

end Cert.KernelIdeal.Scan

end
-- ==== Proof.Reference.lean ====
/-
  The reference's run. The program is one counted host loop of 65536 trips over one device's buffers: before trip `k` the
  counter is `k`, the carried row is the product of the rows before `k`, and the carried array holds the running product in
  its rows before `k`. Trip `k` multiplies the carried row by row `k` of the argument, writes the product into row `k`, and
  adds one to the counter.
-/
module

public import proofs.«01_k».proof.Proof.Gen.ReferenceIdeal
public import Idealize.ShloMosaic.Lib.StableHlo.RunLoop
public import Idealize.ShloMosaic.Lib.Scf.ExitTest
public import Idealize.ShloMosaic.Lib.Scf.Counter
public import Idealize.ShloMosaic.Lib.WordCmp
public import Idealize.ShloMosaic.Lib.ValueIdx
public import Idealize.ShloMosaic.Lib.Pipeline.Value

@[expose] public section

noncomputable section

namespace Cert.ReferenceIdeal.Scan

open Cert.ReferenceIdeal Cert.ReferenceIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)
open Idealize.ShloMosaic.ValueIdx (ix1 ix2)
open Idealize.ShloMosaic.WordCmp (dynamicSlice_eq_extract dynamicUpdateSlice_eq_update)

variable {F : FTy → Type} [FloatOps F]

/-! ## The operations -/

/-- The operations before the loop: the row of ones, the array of zeros and the counter's zero, copied into the carried buffers. -/
abbrev preOps : List (HloOp τ sig (Elt F)) :=
  [ StableHlo.nullary main_cst (constant S_ .f32 0x3F800000#32),
    StableHlo.unary main_cst main_v0 (broadcastInDim S1024 ![] bcast_S_S1024 : (⟨S_, .f32⟩ : BufTy).Contents (Elt F) → (⟨S1024, .f32⟩ : BufTy).Contents (Elt F)),
    StableHlo.nullary main_cst_0 (constant S_ .f32 0x00000000#32),
    StableHlo.unary main_cst_0 main_v1 (broadcastInDim S65536x1024 ![] bcast_S_S65536x1024 : (⟨S_, .f32⟩ : BufTy).Contents (Elt F) → (⟨S65536x1024, .f32⟩ : BufTy).Contents (Elt F)),
    StableHlo.nullary main_c (constantI S_ 32 0#32),
    StableHlo.unary main_arg0 main_v2_0 id,
    StableHlo.unary main_c main_v2_1 id,
    StableHlo.unary main_v0 main_v2_2 id,
    StableHlo.unary main_v1 main_v2_3 id ]

/-- The condition: the counter against 65536. -/
abbrev condOps : List (HloOp τ sig (Elt F)) :=
  [ StableHlo.nullary main_while0c_c_4 (constantI S_ 32 65536#32),
    StableHlo.binary main_v2_1 main_while0c_c_4 main_while0c_v3 (cmpi .slt : (⟨S_, .i32⟩ : BufTy).Contents (Elt F) → (⟨S_, .i32⟩ : BufTy).Contents (Elt F) → (⟨S_, .i1⟩ : BufTy).Contents (Elt F)) ]

/-- A trip's first operations: the argument's row at the counter and its product with the carried row. -/
abbrev rowOps : List (HloOp τ sig (Elt F)) :=
  [ StableHlo.TRef.nullary main_while0b_call0.c (constantI S_ 32 0#32),
    StableHlo.TRef.unaryIndexed (.of main_v2_0 : TRef sig ⟨S65536x1024, .f32⟩) ![(.of main_v2_1 : TRef sig ⟨S_, .i32⟩), main_while0b_call0.c] main_while0b_call0.v0
      (fun x i => Host.dynamicSlice S1x1024 x (fun k => (i k (Shape.Idx.first h_S_)).toInt) sliceFits_S65536x1024_S1x1024),
    StableHlo.TRef.reshape main_while0b_call0.v0 main_while0b_call0.v1 (rfl : (.f32 : EltTy) = .f32) shapeCasts_S1x1024_S1024,
    StableHlo.binary main_v2_2 main_while0b_v3 main_while0b_v4 (mulf : (⟨S1024, .f32⟩ : BufTy).Contents (Elt F) → (⟨S1024, .f32⟩ : BufTy).Contents (Elt F) → (⟨S1024, .f32⟩ : BufTy).Contents (Elt F)) ]

/-- Its middle operations: that row written into the carried array at the counter. -/
abbrev outOps : List (HloOp τ sig (Elt F)) :=
  [ StableHlo.TRef.unary (.of main_while0b_v4 : TRef sig ⟨S1024, .f32⟩) main_while0b_call1.v0 (broadcastInDim S1x1024 ![1] bcast_S1024_S1x1024_1),
    StableHlo.TRef.nullary main_while0b_call1.c (constantI S_ 32 0#32),
    StableHlo.TRef.binaryIndexed (.of main_v2_3 : TRef sig ⟨S65536x1024, .f32⟩) main_while0b_call1.v0 ![(.of main_v2_1 : TRef sig ⟨S_, .i32⟩), main_while0b_call1.c] main_while0b_call1.v1
      (fun x u i => Host.dynamicUpdateSlice x u (fun k => (i k (Shape.Idx.first h_S_)).toInt) updateFits_S65536x1024_S1x1024) ]

/-- Its last operations: the counter's step and the copies back into the carried buffers. -/
abbrev stepOps : List (HloOp τ sig (Elt F)) :=
  [ StableHlo.nullary main_while0b_c_4 (constantI S_ 32 1#32),
    StableHlo.binary main_v2_1 main_while0b_c_4 main_while0b_v6 (addi : (⟨S_, .i32⟩ : BufTy).Contents (Elt F) → (⟨S_, .i32⟩ : BufTy).Contents (Elt F) → (⟨S_, .i32⟩ : BufTy).Contents (Elt F)),
    StableHlo.unary main_while0b_v6 main_v2_1 id,
    StableHlo.unary main_while0b_v4 main_v2_2 id,
    StableHlo.unary main_while0b_v5 main_v2_3 id ]

theorem pre_sub : (preOps (F := F)).Forall fun op => op.bufs ⊆ tcRefs τ sig :=
  ⟨nullary_bufs_sub .., unary_bufs_sub .., nullary_bufs_sub .., unary_bufs_sub .., nullary_bufs_sub .., unary_bufs_sub ..,
    unary_bufs_sub .., unary_bufs_sub .., unary_bufs_sub ..⟩

theorem row_sub : (rowOps (F := F)).Forall fun op => op.bufs ⊆ tcRefs τ sig :=
  ⟨nullary_bufs_sub .., unaryIndexed_bufs_sub .., reshape_bufs_sub .., binary_bufs_sub ..⟩

theorem out_sub : (outOps (F := F)).Forall fun op => op.bufs ⊆ tcRefs τ sig :=
  ⟨unary_bufs_sub .., nullary_bufs_sub .., binaryIndexed_bufs_sub ..⟩

theorem step_sub : (stepOps (F := F)).Forall fun op => op.bufs ⊆ tcRefs τ sig :=
  ⟨nullary_bufs_sub .., binary_bufs_sub .., unary_bufs_sub .., unary_bufs_sub .., unary_bufs_sub ..⟩

theorem main_eq (c : Dev nD) : main (F := F) c
    = Pipeline.chain (([preOps].map fun ops => (seq ops : Prog _ PUnit)) ++ HostLoop.enter 0 :: (([] : List (List (HloOp τ sig (Elt F)))).map fun ops => (seq ops : Prog _ PUnit))) := by
  chain_rfl

theorem body_eq : main_while0_body (F := F) = Pipeline.chain ([rowOps, outOps, stepOps].map fun ops => (seq ops : Prog _ PUnit)) := by
  chain_rfl

/-! ## What one trip leaves in the carried buffers, from any contents -/

/-- The starts both indexed operations take: the counter on the rows, zero on the columns. -/
def starts (i : (⟨S_, .i32⟩ : BufTy).Contents (Elt F)) : Fin 2 → Int :=
  fun k => ((![i, (constantI S_ 32 0#32 : (⟨S_, .i32⟩ : BufTy).Contents (Elt F))] : Fin 2 → (⟨S_, .i32⟩ : BufTy).Contents (Elt F)) k (Shape.Idx.first h_S_)).toInt

/-- One trip's row: the carried row times the argument's row at the counter. -/
def nextRow (x : (⟨S65536x1024, .f32⟩ : BufTy).Contents (Elt F)) (i : (⟨S_, .i32⟩ : BufTy).Contents (Elt F)) (p : (⟨S1024, .f32⟩ : BufTy).Contents (Elt F)) :
    (⟨S1024, .f32⟩ : BufTy).Contents (Elt F) :=
  mulf p (shapeCast S1024 (Host.dynamicSlice S1x1024 x (starts i) sliceFits_S65536x1024_S1x1024) shapeCasts_S1x1024_S1024)

/-- One trip's array: the carried array with that row written at the counter. -/
def nextOut (x : (⟨S65536x1024, .f32⟩ : BufTy).Contents (Elt F)) (i : (⟨S_, .i32⟩ : BufTy).Contents (Elt F)) (p : (⟨S1024, .f32⟩ : BufTy).Contents (Elt F))
    (y : (⟨S65536x1024, .f32⟩ : BufTy).Contents (Elt F)) : (⟨S65536x1024, .f32⟩ : BufTy).Contents (Elt F) :=
  Host.dynamicUpdateSlice y (broadcastInDim S1x1024 ![1] bcast_S1024_S1x1024_1 (nextRow x i p)) (starts i) updateFits_S65536x1024_S1x1024

/-- One trip's operations in order. -/
abbrev tripOps : List (List (HloOp τ sig (Elt F))) := [rowOps, outOps, stepOps]

theorem row_val (X : Valuation τ sig (Elt F)) : after rowOps X main_while0b_v4 = nextRow (X main_v2_0) (X main_v2_1) (X main_v2_2) := by
  unfold nextRow starts; rw [rowOps]; after_results_entrywise []

theorem row_keeps (X : Valuation τ sig (Elt F)) (b : Ref sig .tc) (h₁ : b ≠ main_while0b_call0_c) (h₂ : b ≠ main_while0b_call0_v0)
    (h₃ : b ≠ main_while0b_v3) (h₄ : b ≠ main_while0b_v4) : after rowOps X b = X b := by
  refine after_of_forall_not_mem _ _ ?_
  intro op hop
  fin_cases hop
  · exact fun h => devRef_ne_of_ne h₁ (Finset.mem_singleton.mp h)
  · exact fun h => devRef_ne_of_ne h₂ (Finset.mem_singleton.mp h)
  · exact fun h => devRef_ne_of_ne h₃ (Finset.mem_singleton.mp h)
  · exact fun h => devRef_ne_of_ne h₄ (Finset.mem_singleton.mp h)

theorem out_val (X : Valuation τ sig (Elt F)) : after outOps X main_while0b_v5
    = Host.dynamicUpdateSlice (X main_v2_3) (broadcastInDim S1x1024 ![1] bcast_S1024_S1x1024_1 (X main_while0b_v4)) (starts (X main_v2_1)) updateFits_S65536x1024_S1x1024 := by
  unfold starts; rw [outOps]; after_results_entrywise []

theorem out_keeps (X : Valuation τ sig (Elt F)) (b : Ref sig .tc) (h₁ : b ≠ main_while0b_call1_v0) (h₂ : b ≠ main_while0b_call1_c)
    (h₃ : b ≠ main_while0b_v5) : after outOps X b = X b := by
  refine after_of_forall_not_mem _ _ ?_
  intro op hop
  fin_cases hop
  · exact fun h => devRef_ne_of_ne h₁ (Finset.mem_singleton.mp h)
  · exact fun h => devRef_ne_of_ne h₂ (Finset.mem_singleton.mp h)
  · exact fun h => devRef_ne_of_ne h₃ (Finset.mem_singleton.mp h)

theorem step_ctr (X : Valuation τ sig (Elt F)) : after stepOps X main_v2_1 = addi (X main_v2_1) (constantI S_ 32 1#32) := by
  rw [stepOps]; after_results; try rfl
theorem step_x (X : Valuation τ sig (Elt F)) : after stepOps X main_v2_0 = X main_v2_0 := by
  rw [stepOps]; after_results
theorem step_arg (X : Valuation τ sig (Elt F)) : after stepOps X main_arg0 = X main_arg0 := by
  rw [stepOps]; after_results
theorem step_row (X : Valuation τ sig (Elt F)) : after stepOps X main_v2_2 = X main_while0b_v4 := by
  rw [stepOps]; after_results; try rfl
theorem step_out (X : Valuation τ sig (Elt F)) : after stepOps X main_v2_3 = X main_while0b_v5 := by
  rw [stepOps]; after_results; try rfl

theorem trip_ctr (X : Valuation τ sig (Elt F)) : afterL tripOps X main_v2_1 = addi (X main_v2_1) (constantI S_ 32 1#32) := by
  show after stepOps (after outOps (after rowOps X)) main_v2_1 = _
  rw [step_ctr, out_keeps _ _ (by decide) (by decide) (by decide), row_keeps _ _ (by decide) (by decide) (by decide) (by decide)]

theorem trip_x (X : Valuation τ sig (Elt F)) : afterL tripOps X main_v2_0 = X main_v2_0 := by
  show after stepOps (after outOps (after rowOps X)) main_v2_0 = _
  rw [step_x, out_keeps _ _ (by decide) (by decide) (by decide), row_keeps _ _ (by decide) (by decide) (by decide) (by decide)]

theorem trip_arg (X : Valuation τ sig (Elt F)) : afterL tripOps X main_arg0 = X main_arg0 := by
  show after stepOps (after outOps (after rowOps X)) main_arg0 = _
  rw [step_arg, out_keeps _ _ (by decide) (by decide) (by decide), row_keeps _ _ (by decide) (by decide) (by decide) (by decide)]

theorem trip_row (X : Valuation τ sig (Elt F)) : afterL tripOps X main_v2_2 = nextRow (X main_v2_0) (X main_v2_1) (X main_v2_2) := by
  show after stepOps (after outOps (after rowOps X)) main_v2_2 = _
  rw [step_row, out_keeps _ _ (by decide) (by decide) (by decide), row_val]

theorem trip_out (X : Valuation τ sig (Elt F)) :
    afterL tripOps X main_v2_3 = nextOut (X main_v2_0) (X main_v2_1) (X main_v2_2) (X main_v2_3) := by
  show after stepOps (after outOps (after rowOps X)) main_v2_3 = _
  rw [step_out, out_val, row_val, row_keeps _ main_v2_3 (by decide) (by decide) (by decide) (by decide),
    row_keeps _ main_v2_1 (by decide) (by decide) (by decide) (by decide)]
  rfl

theorem cond_keeps (X : Valuation τ sig (Elt F)) (b : Ref sig .tc) (h₁ : b ≠ main_while0c_c_4) (h₂ : b ≠ main_while0c_v3) :
    after condOps X b = X b := by
  refine after_of_forall_not_mem _ _ ?_
  intro op hop
  fin_cases hop
  · exact fun h => devRef_ne_of_ne h₁ (Finset.mem_singleton.mp h)
  · exact fun h => devRef_ne_of_ne h₂ (Finset.mem_singleton.mp h)

theorem pre_ctr (X : Valuation τ sig (Elt F)) : after preOps X main_v2_1 = constantI S_ 32 0#32 := by
  rw [preOps]; after_results; try rfl
theorem pre_x (X : Valuation τ sig (Elt F)) : after preOps X main_v2_0 = X main_arg0 := by
  rw [preOps]; after_results; try rfl
theorem pre_arg (X : Valuation τ sig (Elt F)) : after preOps X main_arg0 = X main_arg0 := by
  rw [preOps]; after_results
theorem pre_row (X : Valuation τ sig (Elt F)) : after preOps X main_v2_2
    = (broadcastInDim S1024 ![] bcast_S_S1024 (constant S_ .f32 0x3F800000#32 : (⟨S_, .f32⟩ : BufTy).Contents (Elt F)) : (⟨S1024, .f32⟩ : BufTy).Contents (Elt F)) := by
  rw [preOps]; after_results; try rfl

/-! ## The contents before trip `k` -/

section Trips

variable (m : (ℓ : Loc nD τ sig) → Buf (Elt F) ℓ)

/-- Every buffer's contents before the `k`-th run of the condition. -/
abbrev before (k : ℕ) (c : Dev nD) : Valuation τ sig (Elt F) := atTrip condOps tripOps (entryContents [preOps] m) k c

theorem before_ctr (c : Dev nD) : ∀ k, before m k c main_v2_1 = fun _ => Scf.iv (0#32) (1#32) k
  | 0 => by
    show after preOps (launchContents m c) main_v2_1 = _
    rw [pre_ctr, Scf.iv_zero]; rfl
  | k + 1 => by
    show afterL tripOps (after condOps (before m k c)) main_v2_1 = _
    rw [trip_ctr, cond_keeps _ _ (by decide) (by decide), before_ctr c k, Scf.iv_succ]
    rfl

theorem before_x (c : Dev nD) : ∀ k, before m k c main_v2_0 = launchContents m c main_arg0
  | 0 => pre_x (launchContents m c)
  | k + 1 => by
    show afterL tripOps (after condOps (before m k c)) main_v2_0 = _
    rw [trip_x, cond_keeps _ _ (by decide) (by decide), before_x c k]

theorem before_arg (c : Dev nD) : ∀ k, before m k c main_arg0 = launchContents m c main_arg0
  | 0 => pre_arg (launchContents m c)
  | k + 1 => by
    show afterL tripOps (after condOps (before m k c)) main_arg0 = _
    rw [trip_arg, cond_keeps _ _ (by decide) (by decide), before_arg c k]

/-- The loop runs 65536 trips. -/
theorem trips_eq : Scf.trips (0#32) (65536#32) (1#32) = 65536 := by decide

set_option backward.isDefEq.respectTransparency.types false in
/-- The condition before trip `k` holds exactly while `k` is below 65536. -/
theorem cond_spec : CondSpec (pcfgs (F := F)) defs₀ loops main_while0_cond condOps tripOps (entryContents [preOps] m) 65536 := by
  intro k hk c bd
  unfold main_while0_cond
  simp only [bind_pure]
  iintro H
  rw [wp_bind]
  iapply (wp_hlo_within (Variants.lift Variants.none) (c : Thread nD τ) bd Set.univ (sub_ucRefs _ (nullary_bufs_sub ..))) $$ H
  iintro H
  rw [wp_ret]; imodintro
  iapply (wp_hlo_within (Variants.lift Variants.none) (c : Thread nD τ) bd Set.univ (sub_ucRefs _ (binary_bufs_sub ..))) $$ H
  iintro H
  rw [HostLoop.elt_apply, wp_ret]
  imodintro
  isplitr
  · ipureintro
    show Iff (IntOp.cmpi .slt (HloOp.result _ (before m k c) main_v2_1 HostLoop.idx0) (HloOp.result _ (before m k c) main_while0c_c_4 HostLoop.idx0) = 1#1) (k < 65536)
    rw [nullary_result_ne _ _ _ _ (by decide), nullary_result, before_ctr]
    have h := Scf.cmpi_slt_iv_ub_iff (lb := 0#32) (ub := 65536#32) (st := 1#32) main_while0_ok (k := k) (trips_eq ▸ hk)
    rw [trips_eq] at h
    exact h
  · rw [condOps, after_cons, after_cons, after_nil]
    iexact H

end Trips

/-! ## One trip at its number -/

/-- Row `k` of the argument. -/
def row (x : (⟨S65536x1024, .f32⟩ : BufTy).Contents (Elt F)) (k : ℕ) : (⟨S1024, .f32⟩ : BufTy).Contents (Elt F) :=
  fun j => x (ix2 (Fin.ofNat 65536 k) (j 0))

/-- The product of the rows before `k`, in order, from a row of ones. -/
def rowProd (x : (⟨S65536x1024, .f32⟩ : BufTy).Contents (Elt F)) : ℕ → (⟨S1024, .f32⟩ : BufTy).Contents (Elt F)
  | 0 => broadcastInDim S1024 ![] bcast_S_S1024 (constant S_ .f32 0x3F800000#32 : (⟨S_, .f32⟩ : BufTy).Contents (Elt F))
  | k + 1 => mulf (rowProd x k) (row x k)

theorem starts_iv (k : ℕ) (hk : k < 65536) (a : Fin 2) :
    starts (F := F) (fun _ => Scf.iv (0#32) (1#32) k) a = ((![k, 0] : Fin 2 → ℕ) a : Int) := by
  fin_cases a
  · show (Scf.iv (0#32) (1#32) k).toInt = (k : Int)
    rw [Scf.toInt_iv main_while0_ok (le_of_lt (by rw [trips_eq]; exact hk))]
    simp
  · rfl

theorem slices_at (k : ℕ) (hk : k < 65536) : S65536x1024.Slices (![k, 0] : Fin 2 → ℕ) S1x1024 :=
  ⟨rfl, fun a => by fin_cases a; · show k + 1 ≤ 65536; omega
                    · show 0 + 1024 ≤ 1024; omega⟩

/-- Trip `k` multiplies the carried row by row `k`. -/
theorem nextRow_iv (x : (⟨S65536x1024, .f32⟩ : BufTy).Contents (Elt F)) (k : ℕ) (hk : k < 65536) (p : (⟨S1024, .f32⟩ : BufTy).Contents (Elt F)) :
    nextRow x (fun _ => Scf.iv (0#32) (1#32) k) p = mulf p (row x k) := by
  unfold nextRow
  congr 1
  rw [dynamicSlice_eq_extract S1x1024 x _ _ (![k, 0] : Fin 2 → ℕ) (slices_at k hk) (starts_iv k hk)]
  funext j
  rw [shapeCast_dropUnit_apply (d := ![1024])]
  unfold extractStridedSlice row
  congr 1
  funext a
  apply Fin.ext
  fin_cases a
  · show k + 0 = k % 65536
    rw [Nat.mod_eq_of_lt hk]; rfl
  · show 0 + (j 0).val = (j 0).val
    omega

/-- Trip `k` writes that row into row `k` and leaves the others. -/
theorem nextOut_iv (x : (⟨S65536x1024, .f32⟩ : BufTy).Contents (Elt F)) (k : ℕ) (hk : k < 65536) (p : (⟨S1024, .f32⟩ : BufTy).Contents (Elt F))
    (y : (⟨S65536x1024, .f32⟩ : BufTy).Contents (Elt F)) (i : S65536x1024.Idx) :
    nextOut x (fun _ => Scf.iv (0#32) (1#32) k) p y i = if (i 0).val = k then mulf p (row x k) (ix1 (i 1)) else y i := by
  unfold nextOut
  rw [nextRow_iv x k hk, dynamicUpdateSlice_eq_update y _ _ _ (![k, 0] : Fin 2 → ℕ) (slices_at k hk) (starts_iv k hk)]
  unfold updateSlice
  by_cases h : (i 0).val = k
  · rw [if_pos h, dif_pos]
    · unfold broadcastInDim
      congr 1
      funext a
      fin_cases a
      apply Fin.ext
      show _ = (i 1).val
      simp
    · intro a
      fin_cases a
      · show k ≤ (i 0).val ∧ (i 0).val < k + 1
        omega
      · show 0 ≤ (i 1).val ∧ (i 1).val < 0 + 1024
        exact ⟨Nat.zero_le _, by have := (i 1).isLt; simpa using this⟩
  · rw [if_neg h, dif_neg]
    intro hall
    have := hall 0
    have h1 : k ≤ (i 0).val ∧ (i 0).val < k + 1 := this
    omega

section Trips

variable (m : (ℓ : Loc nD τ sig) → Buf (Elt F) ℓ)

theorem before_row (c : Dev nD) : ∀ k ≤ 65536, before m k c main_v2_2 = rowProd (launchContents m c main_arg0) k
  | 0, _ => pre_row (launchContents m c)
  | k + 1, hk => by
    show afterL tripOps (after condOps (before m k c)) main_v2_2 = _
    rw [trip_row, cond_keeps _ _ (by decide) (by decide), cond_keeps _ _ (by decide) (by decide), cond_keeps _ _ (by decide) (by decide),
      before_x, before_ctr, before_row c k (by omega)]
    exact nextRow_iv _ k (by omega) _

/-- Before trip `k` the carried array's rows before `k` hold the running product. -/
theorem before_out (c : Dev nD) : ∀ k ≤ 65536, ∀ i : S65536x1024.Idx, (i 0).val < k →
    before m k c main_v2_3 i = rowProd (launchContents m c main_arg0) ((i 0).val + 1) (ix1 (i 1))
  | 0, _, _, h => absurd h (Nat.not_lt_zero _)
  | k + 1, hk, i, h => by
    show afterL tripOps (after condOps (before m k c)) main_v2_3 i = _
    rw [trip_out, cond_keeps _ _ (by decide) (by decide), cond_keeps _ _ (by decide) (by decide), cond_keeps _ _ (by decide) (by decide),
      cond_keeps _ _ (by decide) (by decide), before_x, before_ctr, before_row m c k (by omega)]
    refine (nextOut_iv _ k (by omega) _ _ i).trans ?_
    by_cases hik : (i 0).val = k
    · rw [if_pos hik, hik]; rfl
    · rw [if_neg hik]
      exact before_out c k (by omega) i (by omega)

end Trips

/-! ## The run -/

/-- The running product of the rows of `x`: row `i` of the result is the product of the rows up to and including `i`. -/
def cumulative (x : (⟨S65536x1024, .f32⟩ : BufTy).Contents (Elt F)) : (⟨S65536x1024, .f32⟩ : BufTy).Contents (Elt F) :=
  fun i => rowProd x ((i 0).val + 1) (ix1 (i 1))

/-- From any memory with zero counters the reference terminates with its argument unchanged and its result at the running
    product of the argument's rows. -/
theorem run_main [∀ e, Nonempty (Elt F e)] (m : (ℓ : Loc nD τ sig) → Buf (Elt F) ℓ) (ρ : Dev nD → PrngReg) :
    θ_run defs (onTc (τ := τ) main) ⟨m, fun _ => 0, ρ⟩ (fun r => ∀ c : Dev nD,
      r.2.mem ((c.tc : Thread nD τ).loc main_v2_3) = cumulative (m ((c.tc : Thread nD τ).loc main_arg0))
      ∧ r.2.mem ((c.tc : Thread nD τ).loc main_arg0) = m ((c.tc : Thread nD τ).loc main_arg0)) := by
  refine (θ_run defs (onTc (τ := τ) main) ⟨m, fun _ => 0, ρ⟩).monotone ?_
    (run_loop (pcfgs (F := F)) defs₀ loops main 0 main_while0_cond main_while0_body rfl [preOps] tripOps [] condOps
    (.cons pre_sub .nil) (.cons row_sub (.cons out_sub (.cons step_sub .nil))) .nil main_eq body_eq 65536 m ρ (cond_spec m))
  intro r h c
  constructor
  · rw [h c main_v2_3 rfl]
    show after condOps (before m 65536 c) main_v2_3 = _
    rw [cond_keeps _ _ (by decide) (by decide)]
    funext i
    exact before_out m c 65536 le_rfl i (i 0).isLt
  · rw [h c main_arg0 rfl]
    show after condOps (before m 65536 c) main_arg0 = _
    rw [cond_keeps _ _ (by decide) (by decide), before_arg]

end Cert.ReferenceIdeal.Scan
-- ==== Proof.KernelIdeal.Result.lean ====
/-
  What the launch leaves in the arrays, read through the windows: each window is its whole array in one block, so the body
  reads a device's argument itself, and the result array ends at what the body computes.
-/
module

public import proofs.«01_k».proof.Proof.KernelIdeal.Launch
public import Idealize.ShloMosaic.Lib.Pipeline.ValueKit.Geometry

@[expose] public section

noncomputable section

namespace Cert.KernelIdeal.Scan

open Cert.KernelIdeal Cert.KernelIdeal.Gen
open Idealize.ShloMosaic Idealize.ShloMosaic.TcCoe Idealize.SL.Sem
open Idealize.ShloMosaic.Pipeline

variable {F : FTy → Type} [FloatOps F] (m : (ℓ : Loc nD τ sig) → Buf (Elt F) ℓ) (ρ : Dev nD → PrngReg)

/-- What a device's body reads as its `x` is its argument. -/
theorem xstg_eq (c : Dev nD) : xstg m ρ c = m ((c : Thread nD τ).loc main_arg0) := by
  funext i
  show m ((c : Thread nD τ).loc main_arg0) ((win0_0.blk (0 : Fin 1)).view.emb i) = m ((c : Thread nD τ).loc main_arg0) i
  refine congrArg _ (funext fun a => Fin.ext ?_)
  match a with
  | ⟨0, _⟩ => show 0 * 4096 + 1 * (i 0).val = (i 0).val; omega
  | ⟨1, _⟩ => show 0 * 1024 + 1 * (i 1).val = (i 1).val; omega

/-- A device's result array ends at what its body computes. -/
theorem finalA_out (c : Dev nD) : finalA m ρ c (1 : Fin 2) = resultAt (xstg m ρ) c := by
  refine (dats m ρ 0 c).arrAt_eq_of_after_last (1 : Fin 2) t₀ (by decide +kernel) _ fun j => ?_
  rfl

/-- Every execution of the program ends with each device's result the body's value of the devices' arguments, and its
    argument unchanged. -/
theorem run_result : θ_run defs (onTc (τ := τ) (main (F := F))) ⟨m, fun _ => 0, ρ⟩ (fun r => ∀ c : Dev nD,
    r.2.mem ((c : Thread nD τ).loc main_v1) = resultAt (fun d => m ((d : Thread nD τ).loc main_arg0)) c
      ∧ r.2.mem ((c : Thread nD τ).loc main_arg0) = m ((c : Thread nD τ).loc main_arg0)) :=
  (θ_run _ _ _).mono (fun r h c => ⟨(h.1 c (1 : Fin 2)).trans ((finalA_out m ρ c).trans
      (congrArg (fun X => resultAt X c) (funext fun d => xstg_eq m ρ d))), (h.1 c (0 : Fin 2)).trans (finalA_x m ρ c)⟩) (run_main m ρ)

end Cert.KernelIdeal.Scan

end
-- ==== Proof.KernelIdeal.Products.lean ====
/-
  The body's steps over the extended reals, on rows of positive reals: a block's row product is the product of its rows, a
  scanned block holds the products of the rows up to each of its own, the accumulator ends at the product of the rows of
  every device up to this one, and the scaled result is the running product over all devices' rows.

  Each statement follows one column `j`: `y : ℕ → ℝ` lists its entries over all rows of the whole array.
-/
module

public import proofs.«01_k».proof.Proof.KernelIdeal.Body
public import Idealize.ShloMosaic.Lib.ValueIdx
public import Idealize.ShloMosaic.Lib.MatmulPlain
public import Idealize.ShloMosaic.Lib.WordCmp
public import Idealize.ShloMosaic.Lib.Pipeline.Value
public import Idealize.ShloMosaic.PureOps.Ideal.Laws

@[expose] public section

noncomputable section

namespace Cert.KernelIdeal.Scan

open Cert.KernelIdeal Cert.KernelIdeal.Gen
open Idealize.ShloMosaic Idealize.ShloMosaic.ValueIdx
open Finset (range)

/-! ## Real numbers among the extended reals -/

theorem coe_prod {ι : Type} (s : Finset ι) (f : ι → ℝ) : ((∏ i ∈ s, f i : ℝ) : EReal) = ∏ i ∈ s, (f i : EReal) := by
  classical
  induction s using Finset.induction_on with
  | empty => simp
  | insert a s ha ih => rw [Finset.prod_insert ha, Finset.prod_insert ha, EReal.coe_mul, ih]

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem log_of_pos {r : ℝ} (h : 0 < r) : Ideal.log (r : EReal) = ((Real.log r : ℝ) : EReal) := if_neg (not_le.mpr h)

theorem mul_div_of_pos {a b : ℝ} (hb : 0 < b) : Ideal.div ((a * b : ℝ) : EReal) (b : EReal) = (a : EReal) := by
  rw [Ideal.div_coe hb.ne', ← EReal.coe_mul, mul_assoc, mul_one_div_cancel hb.ne', mul_one]

/-- The exponential of the sum of logarithms of positive numbers is their product. -/
theorem exp_sum_log {y : ℕ → ℝ} (hy : ∀ k, 0 < y k) (o n : ℕ) :
    Real.exp (∑ k ∈ range n, Real.log (y (o + k))) = ∏ k ∈ range n, y (o + k) := by
  rw [Real.exp_sum]; exact Finset.prod_congr rfl fun k _ => Real.exp_log (hy _)

/-! ## A block's row product -/

/-- One halving: the product down a column of the two halves' products is the product down the column. -/
theorem halve {N n : ℕ} (hN : N = n + n) (v : FVec Ideal ⟨2, ![N, 1024]⟩ .f32)
    (h0 : (⟨2, ![N, 1024]⟩ : Shape).Slices ![0, 0] ⟨2, ![n, 1024]⟩) (h1 : (⟨2, ![N, 1024]⟩ : Shape).Slices ![n, 0] ⟨2, ![n, 1024]⟩)
    (j : Fin 1024) :
    ∏ k : Fin n, mulf (extractStridedSlice ⟨2, ![n, 1024]⟩ ![0, 0] v h0) (extractStridedSlice ⟨2, ![n, 1024]⟩ ![n, 0] v h1) (ix2 k j)
      = ∏ k : Fin N, v (ix2 k j) := by
  subst hN
  rw [Fin.prod_univ_add, ← Finset.prod_mul_distrib]
  refine Finset.prod_congr rfl fun k _ => ?_
  rw [mulf_apply]
  refine congrArg₂ (· * ·) (congrArg v (funext fun a => Fin.ext ?_)) (congrArg v (funext fun a => Fin.ext ?_))
  · match a with
    | ⟨0, _⟩ => exact Nat.zero_add _
    | ⟨1, _⟩ => exact Nat.zero_add _
  · match a with
    | ⟨0, _⟩ => rfl
    | ⟨1, _⟩ => exact Nat.zero_add _

/-- A block's row product is the product of its rows. -/
theorem rowprod_apply (x : Vec Ideal S256x1024 .f32) (j : Fin 1024) : rowprod (F := Ideal) x (ix2 0 j) = ∏ k : Fin 256, x (ix2 k j) := by
  rw [← Fin.prod_univ_one (fun k : Fin 1 => rowprod (F := Ideal) x (ix2 k j))]
  refine (halve (N := 2) rfl _ _ _ j).trans <| (halve (N := 4) rfl _ _ _ j).trans <| (halve (N := 8) rfl _ _ _ j).trans <|
    (halve (N := 16) rfl _ _ _ j).trans <| (halve (N := 32) rfl _ _ _ j).trans <| (halve (N := 64) rfl _ _ _ j).trans <|
    (halve (N := 128) rfl _ _ _ j).trans <| (halve (N := 256) rfl _ _ _ j).trans ?_
  rw [shapeCast_self]

/-! ## One device -/

/-- Rows `256 b …` of a device's `x`. -/
theorem xBlk_ix2 (X : XBuf Ideal) (b : Fin 16) (k : Fin 256) (j : Fin 1024) :
    xBlk X b (ix2 k j) = X (ix2 ⟨256 * b.val + k.val, by omega⟩ j) := by
  show X ((blkR b).emb (ix2 k j)) = _
  refine congrArg X (funext fun a => Fin.ext ?_)
  match a with
  | ⟨0, _⟩ => show 256 * b.val + 1 * k.val = 256 * b.val + k.val; omega
  | ⟨1, _⟩ => show 0 + 1 * j.val = j.val; omega

section Device

variable {y : ℕ → ℝ} (hy : ∀ k, 0 < y k) {X : XBuf Ideal} {j : Fin 1024} {o : ℕ}
  (hX : ∀ r : Fin 4096, X (ix2 r j) = ((y (o + r.val) : ℝ) : EReal))

include hX in
theorem xBlk_coe (b : Fin 16) (k : Fin 256) : xBlk X b (ix2 k j) = ((y (o + 256 * b.val + k.val) : ℝ) : EReal) := by
  rw [xBlk_ix2, hX, Nat.add_assoc]

include hX in
theorem rowprod_coe (b : Fin 16) : rowprod (F := Ideal) (xBlk X b) (ix2 0 j) = ((∏ k ∈ range 256, y (o + 256 * b.val + k) : ℝ) : EReal) := by
  rw [rowprod_apply, Finset.prod_congr rfl fun k _ => xBlk_coe hX b k, ← coe_prod,
    Fin.prod_univ_eq_prod_range (fun k => y (o + 256 * b.val + k)) 256]

include hX in
theorem prodFrom_coe : ∀ (m n : ℕ) (hmn : n + m ≤ 16) (t : FVec Ideal S1x1024 .f32)
    (ht : t (ix2 0 j) = ((∏ k ∈ range (256 * n), y (o + k) : ℝ) : EReal)),
    prodFrom X m n t (ix2 0 j) = ((∏ k ∈ range (256 * (n + m)), y (o + k) : ℝ) : EReal)
  | 0, n, _, t, ht => ht
  | m + 1, n, hmn, t, ht => by
    unfold prodFrom
    rw [show n + (m + 1) = n + 1 + m from by omega]
    refine prodFrom_coe m (n + 1) (by omega) _ ?_
    rw [mulf_apply, ht, rowprod_coe hX, ← EReal.coe_mul, ofNat_val (by omega), Nat.mul_succ, Finset.prod_range_add]
    simp only [Nat.add_assoc]

include hX in
/-- A device's total is the product of its rows. -/
theorem total_coe : total X (ix2 0 j) = ((∏ k ∈ range 4096, y (o + k) : ℝ) : EReal) := by
  refine prodFrom_coe hX 15 1 (by decide) _ ?_
  rw [rowprod_coe hX]; rfl

include hy hX in
theorem logs_coe (b : Fin 16) (k : Fin 256) :
    logs (F := Ideal) (xBlk X b) (ix2 k j) = ((Real.log (y (o + 256 * b.val + k.val)) : ℝ) : EReal) := by
  unfold logs
  rw [shapeCast_self]
  exact (congrArg Ideal.log (xBlk_coe hX b k)).trans (log_of_pos (hy _))

/-- The triangle: one where the row is not before the column, zero elsewhere. -/
theorem tri_apply (r k : Fin 256) : k0_pay4 (F := Ideal) (ix2 r k) = ((if k.val ≤ r.val then 1 else 0 : ℝ) : EReal) := by
  unfold k0_pay4
  rw [truncf_apply, sitofp_apply, extui_apply, WordCmp.cmpi_at, iota_single_apply, iota_single_apply]
  show (((BitVec.setWidth 32 (IntOp.cmpi .sge (BitVec.ofNat 32 r.val) (BitVec.ofNat 32 k.val))).toInt : ℝ) : EReal) = _
  rw [WordCmp.cmpi_sge_ofNat (by have := r.isLt; omega) (by have := k.isLt; omega)]
  by_cases h : k.val ≤ r.val <;> simp [h]

/-- The sum of a triangle's row against a column is the sum of the entries up to that row. -/
theorem sum_tri (f : ℕ → ℝ) (r : Fin 256) :
    ∑ k : Fin 256, (if k.val ≤ r.val then 1 else 0 : ℝ) * f k.val = ∑ k ∈ range (r.val + 1), f k := by
  rw [Fin.sum_univ_eq_sum_range (fun k => (if k ≤ r.val then 1 else 0 : ℝ) * f k) 256]
  simp only [ite_mul, one_mul, zero_mul]
  rw [← Finset.sum_filter]
  refine Finset.sum_congr (Finset.ext fun k => ?_) fun _ _ => rfl
  have := r.isLt
  simp only [Finset.mem_filter, Finset.mem_range]; omega

include hy hX in
theorem carryAt_coe : ∀ (n : ℕ) (hn : n ≤ 16), carryAt X n (ix2 0 j) = ((∑ k ∈ range (256 * n), Real.log (y (o + k)) : ℝ) : EReal)
  | 0, _ => by
    show Ideal.ofBits .f32 0x00000000#32 = _
    rw [Ideal.ofBits_zero_f32]; simp
  | n + 1, hn => by
    unfold carryAt nextCarry
    rw [addf_apply, carryAt_coe n (by omega)]
    have h : shapeCast S1x1024 (multiReduction .add [0] S1024 (logs (F := Ideal) (xBlk X (Fin.ofNat 16 n))) 0x00000000#32 reduces_S256x1024_S1024 (.inl rfl) rfl) shapeCasts_S1024_S1x1024 (ix2 0 j)
        = ((∑ k ∈ range 256, Real.log (y (o + (256 * n + k))) : ℝ) : EReal) := by
      refine (shapeCast_addUnit_apply ![1024] _ shapeCasts_S1024_S1x1024 (ix2 0 j)).trans ?_
      refine (Ideal.multiReduction_add_single _ _ _ _ _ _).trans ?_
      rw [← Fin.sum_univ_eq_sum_range (fun k => Real.log (y (o + (256 * n + k)))) 256, coe_sum]
      refine Finset.sum_congr rfl fun k _ => ?_
      have hk : (reduces_S256x1024_S1024 : S256x1024.Reduces [0] S1024).lift (fun a => (ix2 (0 : Fin 1) j : S1x1024.Idx) a.succ) k = ix2 k j := by
        funext a; apply Fin.ext
        match a with
        | ⟨0, _⟩ => rfl
        | ⟨1, _⟩ => rfl
      rw [hk]
      refine (logs_coe hy hX (Fin.ofNat 16 n) k).trans ?_
      rw [ofNat_val (by omega), Nat.add_assoc]
    rw [h, ← EReal.coe_add, Nat.mul_succ, Finset.sum_range_add]

include hy hX in
/-- A scanned block holds, at each of its rows, the product of the device's rows up to that one. -/
theorem localBlk_coe (b : Fin 16) (r : Fin 256) :
    localBlk X b (ix2 r j) = ((∏ k ∈ range (256 * b.val + r.val + 1), y (o + k) : ℝ) : EReal) := by
  unfold localBlk scanBlk
  have hd : matmul dot_S256x256_S256x1024_S256x1024_1_0_0_1_n_n none (k0_pay4 (F := Ideal)) (truncf .bf16 (logs (F := Ideal) (xBlk X b)) bitsLt_bf16_f32)
      (constant S256x1024 .f32 0x00000000#32) (ix2 r j) = ((∑ k ∈ range (r.val + 1), Real.log (y (o + (256 * b.val + k))) : ℝ) : EReal) := by
    refine (Ideal.matmul_plain_apply (M := 256) (K := 256) (N := 1024) none (k0_pay4 (F := Ideal)) (truncf .bf16 (logs (F := Ideal) (xBlk X b)) bitsLt_bf16_f32) (constant S256x1024 .f32 0x00000000#32) r j).trans ?_
    rw [constant_apply, Ideal.ofBits_zero_f32, zero_add, ← sum_tri (fun k => Real.log (y (o + (256 * b.val + k)))) r, coe_sum]
    refine Finset.sum_congr rfl fun k _ => ?_
    rw [tri_apply, truncf_apply, logs_coe hy hX, ← EReal.coe_mul, Nat.add_assoc]
  have hb : broadcastTo S256x1024 (carryAt X b.val) broadcasts_S1x1024_S256x1024 (ix2 r j) = carryAt X b.val (ix2 0 j) :=
    congrArg (carryAt X b.val) (funext fun a => Fin.ext (by match a with | ⟨0, _⟩ => rfl | ⟨1, _⟩ => rfl))
  show Ideal.exp (matmul dot_S256x256_S256x1024_S256x1024_1_0_0_1_n_n none (k0_pay4 (F := Ideal)) (truncf .bf16 (logs (F := Ideal) (xBlk X b)) bitsLt_bf16_f32)
      (constant S256x1024 .f32 0x00000000#32) (ix2 r j) + broadcastTo S256x1024 (carryAt X b.val) broadcasts_S1x1024_S256x1024 (ix2 r j)) = _
  rw [hd, hb, carryAt_coe hy hX _ (by omega), ← EReal.coe_add, Ideal.exp_coe, ← exp_sum_log hy, Nat.add_assoc (256 * b.val),
    Finset.sum_range_add _ (256 * b.val) (r.val + 1), add_comm]

end Device

/-! ## The mesh -/

section Mesh

variable {y : ℕ → ℝ} (hy : ∀ k, 0 < y k) {X : Dev nD → XBuf Ideal} {j : Fin 1024}
  (hX : ∀ (c : Dev nD) (r : Fin 4096), X c (ix2 r j) = ((y (4096 * c.val + r.val) : ℝ) : EReal))

theorem mulAcc_apply (a b : FVec Ideal S1x1024 .f32) (i : S1x1024.Idx) : mulAcc a b i = a i * b i := by
  unfold mulAcc; rw [shapeCast_self]; rfl

include hX in
/-- Before round `n` a device's accumulator is the product of the rows of the `2^n` devices that end with it, or of all
    devices up to it if there are fewer. -/
theorem accAt_coe : ∀ (n : ℕ) (c : Dev nD),
    accAt X n c (ix2 0 j) = ((∏ k ∈ Finset.Ico (4096 * (c.val + 1 - 2 ^ n)) (4096 * (c.val + 1)), y k : ℝ) : EReal)
  | 0, c => by
    unfold accAt
    rw [shapeCast_self, total_coe (hX c), Finset.prod_Ico_eq_prod_range,
      show 4096 * (c.val + 1 - 2 ^ 0) = 4096 * c.val from by simp, show 4096 * (c.val + 1) - 4096 * c.val = 4096 from by omega]
  | n + 1, c => by
    unfold accAt
    have hp : 0 < 2 ^ n := Nat.two_pow_pos n
    have hpp : 2 ^ (n + 1) = 2 ^ n + 2 ^ n := by rw [pow_succ]; omega
    by_cases h : recvAct c n
    · have h' : 2 ^ n ≤ c.val := h
      have hd : (dn n c).val = c.val - 2 ^ n := by
        have := c.isLt
        show (c.val + 15 * 2 ^ n) % 16 = c.val - 2 ^ n
        rw [show c.val + 15 * 2 ^ n = c.val - 2 ^ n + 16 * 2 ^ n from by omega, Nat.add_mul_mod_self_left, Nat.mod_eq_of_lt]
        have : c.val < 16 := c.isLt
        omega
      rw [if_pos h, mulAcc_apply, accAt_coe n c, accAt_coe n (dn n c), ← EReal.coe_mul, hd, mul_comm,
        show c.val - 2 ^ n + 1 = c.val + 1 - 2 ^ n from by omega, show c.val + 1 - 2 ^ n - 2 ^ n = c.val + 1 - 2 ^ (n + 1) from by omega,
        Finset.prod_Ico_consecutive _ (by omega) (by omega)]
    · have h' : ¬ 2 ^ n ≤ c.val := h
      rw [if_neg h, accAt_coe n c, show c.val + 1 - 2 ^ n = c.val + 1 - 2 ^ (n + 1) from by omega]

include hy hX in
/-- The factor a device scales by is the product of the rows of the devices before it. -/
theorem factor_coe (c : Dev nD) : factor X c (ix2 0 j) = ((∏ k ∈ range (4096 * c.val), y k : ℝ) : EReal) := by
  have hc : c.val < 16 := c.isLt
  unfold factor
  rw [divf_apply, accAt_coe hX 4 c, total_coe (hX c), show 4096 * (c.val + 1 - 2 ^ 4) = 0 from by omega, ← Finset.range_eq_Ico,
    Nat.mul_succ, Finset.prod_range_add]
  exact mul_div_of_pos (Finset.prod_pos fun k _ => hy _)

include hy hX in
/-- A device's result is the running product over the rows of all devices up to it. -/
theorem resultAt_coe (c : Dev nD) (i : Fin 4096) :
    resultAt X c (ix2 i j) = ((∏ k ∈ range (4096 * c.val + i.val + 1), y k : ℝ) : EReal) := by
  unfold resultAt outBuf scaleBlk
  rw [mulf_apply, shapeCast_self]
  have hb : broadcastTo S256x1024 (factor X c) broadcasts_S1x1024_S256x1024 (inBlk (ix2 i j)) = factor X c (ix2 0 j) :=
    congrArg (factor X c) (funext fun a => Fin.ext (by match a with | ⟨0, _⟩ => rfl | ⟨1, _⟩ => rfl))
  have hl := localBlk_coe hy (hX c) (blkOf (ix2 i j)) ⟨i.val % 256, Nat.mod_lt _ (by decide)⟩
  rw [hb, factor_coe hy hX c]
  refine (congrArg (· * _) hl).trans ?_
  rw [show 256 * (blkOf (ix2 i j)).val + (⟨i.val % 256, Nat.mod_lt _ (by decide)⟩ : Fin 256).val + 1 = i.val + 1 from by
      show 256 * (i.val / 256) + i.val % 256 + 1 = _
      omega, ← EReal.coe_mul, mul_comm, Nat.add_assoc (4096 * c.val), Finset.prod_range_add _ (4096 * c.val) (i.val + 1)]

end Mesh

end Cert.KernelIdeal.Scan

end
-- ==== Proof.Algebraic.lean ====
/-
  The idealized kernel and the reference compute the same array: on positive finite arguments both results hold, at each
  element, the product of the column's entries up to its row.
-/
module

public import proofs.«01_k».proof.Defs
public import proofs.«01_k».proof.Proof.Gen.Pre_positive_KernelIdeal
public import proofs.«01_k».proof.Proof.KernelIdeal.Result
public import proofs.«01_k».proof.Proof.KernelIdeal.Products
public import proofs.«01_k».proof.Proof.Reference
public import Idealize.ShloMosaic.Lib.IdealHost
public import Idealize.ShloMosaic.Lib.Layout

@[expose] public section

noncomputable section

namespace Cert.Proof

open Idealize.ShloMosaic Idealize.ShloMosaic.TcCoe Idealize.ShloMosaic.ValueIdx Idealize.SL.Sem
open Finset (range)

/-- The whole array. -/
abbrev Whole : Type := (⟨2, ![65536, 1024]⟩ : Shape).Idx → EReal
/-- One device's block of it. -/
abbrev part (c : Fin 16) (V : Whole) : (⟨2, ![4096, 1024]⟩ : Shape).Idx → EReal := Layout.block ⟨2, ![4096, 1024]⟩ ⟨2, ![65536, 1024]⟩ 0 16 c V

/-- Row `r` of device `c`'s block is row `4096 c + r` of the whole. -/
theorem part_apply (c : Fin 16) (V : Whole) (r : Fin 4096) (j : Fin 1024) :
    part c V (ix2 r j) = V (ix2 (Fin.ofNat 65536 (4096 * c.val + r.val)) j) := by
  show V _ = V _
  refine congrArg V (funext fun a => Fin.ext ?_)
  match a with
  | ⟨0, _⟩ =>
    show c.val * 4096 + r.val = (4096 * c.val + r.val) % 65536
    have := c.isLt; have := r.isLt
    omega
  | ⟨1, _⟩ => rfl

/-- The precondition on one device's block, read at an element. -/
theorem positive_apply (x : FVec Ideal ⟨2, ![4096, 1024]⟩ .f32) (h : Cert.Pre_positive_KernelIdeal.fn (F := Ideal) x = fun _ => 1#1)
    (i : (⟨2, ![4096, 1024]⟩ : Shape).Idx) : 0 < x i ∧ x i < ⊤ := by
  have hi := congrFun h i
  have hinf : Ideal.ofBits .f32 0x7F800000#32 = ⊤ := by simp [Ideal.ofBits, Ideal.ieee]
  have hi' : IntOp.andi (Ideal.cmp .ogt (x i) (Ideal.ofBits .f32 0x00000000#32)) (Ideal.cmp .olt (x i) (Ideal.ofBits .f32 0x7F800000#32)) = 1#1 := hi
  rw [Ideal.ofBits_zero_f32, hinf] at hi'
  by_cases h0 : 0 < x i <;> by_cases h1 : x i < ⊤ <;> simp_all [Ideal.cmp, IntOp.andi]

/-- If every device's block is positive and finite, so is the whole array. -/
theorem whole_positive (V : Whole) (h : ∀ c : Fin 16, Cert.Pre_positive_KernelIdeal.fn (F := Ideal) (part c V) = fun _ => 1#1)
    (k : ℕ) (j : Fin 1024) : 0 < V (ix2 (Fin.ofNat 65536 k) j) ∧ V (ix2 (Fin.ofNat 65536 k) j) < ⊤ := by
  have hk : k % 65536 < 65536 := Nat.mod_lt _ (by decide)
  have hp := positive_apply _ (h ⟨k % 65536 / 4096, by omega⟩) (ix2 ⟨k % 65536 % 4096, by omega⟩ j)
  rw [part_apply] at hp
  have he : Fin.ofNat 65536 (4096 * (k % 65536 / 4096) + k % 65536 % 4096) = Fin.ofNat 65536 k := Fin.ext (by
    show (4096 * (k % 65536 / 4096) + k % 65536 % 4096) % 65536 = k % 65536
    omega)
  simp only [he] at hp
  exact hp

/-- Column `j`'s entries as real numbers. -/
def column (V : Whole) (j : Fin 1024) (k : ℕ) : ℝ := (V (ix2 (Fin.ofNat 65536 k) j)).toReal

section Values

variable {V : Whole} (hV : ∀ (k : ℕ) (j : Fin 1024), 0 < V (ix2 (Fin.ofNat 65536 k) j) ∧ V (ix2 (Fin.ofNat 65536 k) j) < ⊤)

include hV in
theorem column_coe (j : Fin 1024) (k : ℕ) : V (ix2 (Fin.ofNat 65536 k) j) = ((column V j k : ℝ) : EReal) :=
  (EReal.coe_toReal (hV k j).2.ne (ne_bot_of_gt (hV k j).1)).symm

include hV in
theorem column_pos (j : Fin 1024) (k : ℕ) : 0 < column V j k := by
  have h := (hV k j).1
  rw [column_coe hV] at h
  exact EReal.coe_pos.mp h

include hV in
/-- The reference's row product before row `n` is the product of the column's entries before it. -/
theorem rowProd_coe (j : Fin 1024) : ∀ n : ℕ,
    Cert.ReferenceIdeal.Scan.rowProd (F := Ideal) V n (ix1 j) = ((∏ k ∈ range n, column V j k : ℝ) : EReal)
  | 0 => by
    show Ideal.ofBits .f32 0x3F800000#32 = _
    rw [Ideal.ofBits_one_f32]; simp
  | n + 1 => by
    unfold Cert.ReferenceIdeal.Scan.rowProd
    rw [mulf_apply, rowProd_coe j n, Finset.prod_range_succ, EReal.coe_mul]
    exact congrArg (_ * ·) (column_coe hV j n)

include hV in
theorem result_apply (c : Fin 16) (r : Fin 4096) (j : Fin 1024) :
    Cert.KernelIdeal.Scan.resultAt (F := Ideal) (fun d => part d V) c (ix2 r j)
      = part c (Cert.ReferenceIdeal.Scan.cumulative (F := Ideal) V) (ix2 r j) := by
  refine (Cert.KernelIdeal.Scan.resultAt_coe (y := column V j) (column_pos hV j)
    (fun d r => (part_apply d V r j).trans (column_coe hV j _)) c r).trans ?_
  rw [part_apply, ← rowProd_coe hV]
  show Cert.ReferenceIdeal.Scan.rowProd (F := Ideal) V (4096 * c.val + r.val + 1) (ix1 j)
    = Cert.ReferenceIdeal.Scan.rowProd (F := Ideal) V ((4096 * c.val + r.val) % 65536 + 1) (ix1 j)
  have hc := c.isLt
  have hr := r.isLt
  rw [Nat.mod_eq_of_lt (by omega)]

include hV in
/-- A device's result is its block of the reference's. -/
theorem result_eq (c : Fin 16) :
    Cert.KernelIdeal.Scan.resultAt (F := Ideal) (fun d => part d V) c = part c (Cert.ReferenceIdeal.Scan.cumulative (F := Ideal) V) :=
  funext fun i => (congrArg (Cert.KernelIdeal.Scan.resultAt (F := Ideal) (fun d => part d V) c) (eq_ix2 i)).trans
    ((result_apply hV c (i 0) (i 1)).trans (congrArg (part c (Cert.ReferenceIdeal.Scan.cumulative (F := Ideal) V)) (eq_ix2 i).symm))

end Values

/-- On positive finite arguments the idealized kernel's devices end with their blocks of the reference's result. -/
theorem algebraic : Cert.algebraic_KernelIdeal_ReferenceIdeal_pre_positive_KernelIdeal := by
  intro m g m' g' hpre hin
  have hV := whole_positive (m' (((0 : Dev Cert.ReferenceIdeal.nD).tc : Thread Cert.ReferenceIdeal.nD Cert.ReferenceIdeal.τ).loc Cert.ReferenceIdeal.main_arg0))
    fun c => by have h := hpre c; rw [hin c] at h; exact h
  refine ⟨Cert.ReferenceIdeal.Scan.cumulative (F := Ideal) (m' (((0 : Dev Cert.ReferenceIdeal.nD).tc : Thread Cert.ReferenceIdeal.nD Cert.ReferenceIdeal.τ).loc Cert.ReferenceIdeal.main_arg0)), ?_, ?_⟩
  · refine (θ_run _ _ _).mono (fun r h c => ⟨(h c).1.trans ?_, (h c).2⟩) (Cert.KernelIdeal.Scan.run_result (F := Ideal) m g)
    exact (congrArg (fun X => Cert.KernelIdeal.Scan.resultAt (F := Ideal) X c) (funext hin)).trans (result_eq hV c)
  · exact (θ_run _ _ _).mono (fun r h => h 0) (Cert.ReferenceIdeal.Scan.run_main (F := Ideal) m' g')

end Cert.Proof

end
-- ==== Proof.lean ====
/-
  The proof of `Cert.Claim` (proofs.«01_k».proof.Defs): the frames of the kernel at the machine's floats and at the extended
  reals, the frame of the reference, the claim that the idealized kernel is the kernel's own printing, and the equality of
  the idealized kernel's and the reference's results on positive finite arguments.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Kernel.Launch
public import proofs.«01_k».proof.Proof.Gen.Pre_positive_KernelIdeal
public import proofs.«01_k».proof.Proof.Gen.Pre_positive_ReferenceIdeal
public import proofs.«01_k».proof.Proof.KernelIdeal.Launch
public import proofs.«01_k».proof.Proof.Reference
public import proofs.«01_k».proof.Proof.Algebraic
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The kernel at the machine's floats ends on every device with its argument unchanged and every counter at zero. -/
theorem frame_kernel : Cert.quiescent_Kernel := fun m ρ _ =>
  (θ_run Cert.Kernel.defs _ _).mono
    (fun r h => ⟨fun c => (h.1 c (0 : Fin 2)).trans (Cert.Kernel.Scan.finalA_x m ρ c), h.2⟩)
    (Cert.Kernel.Scan.run_main (F := Bits) m ρ)

/-- The kernel over the extended reals ends on every device with its argument unchanged and every counter at zero. -/
theorem frame_kernelIdeal : Cert.quiescent_KernelIdeal := fun m ρ _ =>
  (θ_run Cert.KernelIdeal.defs _ _).mono
    (fun r h => ⟨fun c => (h.1 c (0 : Fin 2)).trans (Cert.KernelIdeal.Scan.finalA_x m ρ c), h.2⟩)
    (Cert.KernelIdeal.Scan.run_main (F := Ideal) m ρ)

/-- The reference ends with its argument unchanged; it has no counters. -/
theorem frame_referenceIdeal : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Scan.run_main (F := Ideal) m ρ)

theorem claim : Cert.Claim := ⟨Cert.Kernel.Gen.facts, Cert.KernelIdeal.Gen.facts, Cert.ReferenceIdeal.Gen.facts,
  Cert.Pre_positive_KernelIdeal.Gen.facts, Cert.Pre_positive_ReferenceIdeal.Gen.facts,
  frame_kernel, frame_kernelIdeal, fun m ρ _ => frame_kernelIdeal m ρ trivial,
  frame_referenceIdeal, fun m ρ _ => frame_referenceIdeal m ρ trivial, trivial, algebraic⟩

end Cert.Proof

end
